-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights_and_state [hPre_finite_weights_and_state : Cert.Pre_finite_weights_and_state.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_weights_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_weights_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_weights_and_state.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights_and_state [hPre_finite_weights_and_state : Cert.Pre_finite_weights_and_state.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_weights_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_weights_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_weights_and_state.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_weights_and_state [hKernelIdeal : Cert.KernelIdeal.Facts] [hPre_finite_weights_and_state : Cert.Pre_finite_weights_and_state.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights_and_state m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_weights_and_state [hReferenceIdeal : Cert.ReferenceIdeal.Facts] [hPre_finite_weights_and_state : Cert.Pre_finite_weights_and_state.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights_and_state m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_weights_and_state [hKernelIdeal : Cert.KernelIdeal.Facts] [hReferenceIdeal : Cert.ReferenceIdeal.Facts] [hPre_finite_weights_and_state : Cert.Pre_finite_weights_and_state.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights_and_state m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_weights_and_state : Cert.Pre_finite_weights_and_state.Facts),
    quiescent_Kernel (hKernel := hKernel)
    ∧ quiescent_KernelIdeal (hKernelIdeal := hKernelIdeal)
    ∧ quiescent_KernelIdeal_pre_finite_weights_and_state (hKernelIdeal := hKernelIdeal) (hPre_finite_weights_and_state := hPre_finite_weights_and_state)
    ∧ quiescent_ReferenceIdeal (hReferenceIdeal := hReferenceIdeal)
    ∧ quiescent_ReferenceIdeal_pre_finite_weights_and_state (hReferenceIdeal := hReferenceIdeal) (hPre_finite_weights_and_state := hPre_finite_weights_and_state)
    ∧ preserves_Kernel_KernelIdeal
    ∧ algebraic_KernelIdeal_ReferenceIdeal_pre_finite_weights_and_state (hKernelIdeal := hKernelIdeal) (hReferenceIdeal := hReferenceIdeal) (hPre_finite_weights_and_state := hPre_finite_weights_and_state)
-- ==== Pre_finite_weights_and_state.lean ====
abbrev S1x8192 : Shape := ⟨2, ![1, 8192]⟩
abbrev S2x1x2048 : Shape := ⟨3, ![2, 1, 2048]⟩
abbrev S2048x1 : Shape := ⟨2, ![2048, 1]⟩
abbrev S2048x2048 : Shape := ⟨2, ![2048, 2048]⟩
abbrev S2048 : Shape := ⟨1, ![2048]⟩
abbrev S_ : Shape := ⟨0, ![]⟩

class Facts : Prop where
  bcast_S_S2x1x2048 : S_.BroadcastsInDim S2x1x2048 (![] : Fin 0 → Fin S2x1x2048.rank)
  bcast_S_S2048x2048 : S_.BroadcastsInDim S2048x2048 (![] : Fin 0 → Fin S2048x2048.rank)

variable [Facts]

def fn {F : FTy → Type} [FloatOps F] (main_arg0 : FVec F S1x8192 .f32) (main_arg1 : FVec F S2x1x2048 .f32) (main_arg2 : FVec F S2048x1 .f32) (main_arg3 : FVec F S2048x2048 .f32) (main_arg4 : FVec F S2048 .f32) (main_arg5 : FVec F S2048 .f32) (main_arg6 : FVec F S2048x2048 .f32) (main_arg7 : FVec F S2048x2048 .f32) (main_arg8 : FVec F S2048 .f32) (main_arg9 : FVec F S2048 .f32) : IVec S2x1x2048 1 × IVec S2048x2048 1 × IVec S2048x2048 1 × IVec S2048x2048 1 :=
  let main_v0 : FVec F S2x1x2048 .f32 := subf main_arg1 main_arg1
  let main_cst : FVec F S_ .f32 := constant S_ .f32 0x00000000#32
  let main_v1 : FVec F S2x1x2048 .f32 := broadcastInDim S2x1x2048 ![] bcast_S_S2x1x2048 main_cst
  let main_v2 : IVec S2x1x2048 1 := cmpf .oeq main_v0 main_v1
  let main_v3 : FVec F S2048x2048 .f32 := subf main_arg3 main_arg3
  let main_cst_0 : FVec F S_ .f32 := constant S_ .f32 0x00000000#32
  let main_v4 : FVec F S2048x2048 .f32 := broadcastInDim S2048x2048 ![] bcast_S_S2048x2048 main_cst_0
  let main_v5 : IVec S2048x2048 1 := cmpf .oeq main_v3 main_v4
  let main_v6 : FVec F S2048x2048 .f32 := subf main_arg6 main_arg6
  let main_cst_1 : FVec F S_ .f32 := constant S_ .f32 0x00000000#32
  let main_v7 : FVec F S2048x2048 .f32 := broadcastInDim S2048x2048 ![] bcast_S_S2048x2048 main_cst_1
  let main_v8 : IVec S2048x2048 1 := cmpf .oeq main_v6 main_v7
  let main_v9 : FVec F S2048x2048 .f32 := subf main_arg7 main_arg7
  let main_cst_2 : FVec F S_ .f32 := constant S_ .f32 0x00000000#32
  let main_v10 : FVec F S2048x2048 .f32 := broadcastInDim S2048x2048 ![] bcast_S_S2048x2048 main_cst_2
  let main_v11 : IVec S2048x2048 1 := cmpf .oeq main_v9 main_v10
  (main_v2, main_v5, main_v8, main_v11)
-- ==== Kernel.lean ====
abbrev S1x8192 : Shape := ⟨2, ![1, 8192]⟩
abbrev S2x1x2048 : Shape := ⟨3, ![2, 1, 2048]⟩
abbrev S2048x1 : Shape := ⟨2, ![2048, 1]⟩
abbrev S2048x2048 : Shape := ⟨2, ![2048, 2048]⟩
abbrev S2048 : Shape := ⟨1, ![2048]⟩
abbrev S_ : Shape := ⟨0, ![]⟩
abbrev S2x2048 : Shape := ⟨2, ![2, 2048]⟩
abbrev S1x2048 : Shape := ⟨2, ![1, 2048]⟩
abbrev S128x2048 : Shape := ⟨2, ![128, 2048]⟩
abbrev S1x1 : Shape := ⟨2, ![1, 1]⟩

abbrev nBuf : Space → Nat
  | .hbm => 42
  | .vmem => 16
  | .smem => 1
  | _ => 0

abbrev bufTy : (tb : Table) → Fin (tcTables nBuf tb) → BufTy
  | .hbm, ⟨0, _⟩ => ⟨S1x8192, .f32⟩
  | .hbm, ⟨1, _⟩ => ⟨S2x1x2048, .f32⟩
  | .hbm, ⟨2, _⟩ => ⟨S2048x1, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .fp8e4m3⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .fp8e4m3⟩
  | .hbm, ⟨26, _⟩ => ⟨S2048x2048, .f32⟩
  | .hbm, ⟨27, _⟩ => ⟨S2048x2048, .bf16⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .fp8e4m3⟩
  | .hbm, ⟨34, _⟩ => ⟨S2x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x2048, .f32⟩
  | .hbm, ⟨40, _⟩ => ⟨S2x2048, .f32⟩
  | .hbm, ⟨41, _⟩ => ⟨S2x1x2048, .f32⟩
  | .local _ .vmem, ⟨0, _⟩ => ⟨S2x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S2048x2048, .fp8e4m3⟩
  | .local _ .vmem, ⟨6, _⟩ => ⟨S2048x2048, .bf16⟩
  | .local _ .vmem, ⟨7, _⟩ => ⟨S2048x2048, .fp8e4m3⟩
  | .local _ .vmem, ⟨8, _⟩ => ⟨S1x2048, .f32⟩
  | .local _ .vmem, ⟨9, _⟩ => ⟨S1x2048, .f32⟩
  | .local _ .vmem, ⟨10, _⟩ => ⟨S2048x2048, .bf16⟩
  | .local _ .vmem, ⟨11, _⟩ => ⟨S2048x2048, .fp8e4m3⟩
  | .local _ .vmem, ⟨12, _⟩ => ⟨S2x2048, .f32⟩
  | .local _ .vmem, ⟨13, _⟩ => ⟨S128x2048, .f32⟩
  | .local _ .vmem, ⟨14, _⟩ => ⟨S128x2048, .f32⟩
  | .local _ .vmem, ⟨15, _⟩ => ⟨S2x2048, .f32⟩
  | .local _ .smem, ⟨0, _⟩ => ⟨S1x8192, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c0_i32_8 : BitVec 32 := 0#32
  let v14 : BitVec 1 := Scalar.cmpi .sgt arg0 c0_i32_8
  let c64_i32 : BitVec 32 := 64#32
  let v15 : BitVec 1 := Scalar.cmpi .slt arg0 c64_i32
  let v16 : BitVec 1 := Scalar.andi v14 v15
  let v17 : BitVec 32 := Scalar.extui v16
  let c0_i32_9 : BitVec 32 := 0#32
  let v18 : BitVec 1 := Scalar.cmpi .ne v17 c0_i32_9
  v18

@[reducible] def k0_t1_loop : Scf.Loop 32 :=
  let c0_i32_17 : BitVec 32 := 0#32
  let c128_i32_18 : BitVec 32 := 128#32
  let v27 : BitVec 32 := Scalar.addi c0_i32_17 c128_i32_18
  let c1_i32 : BitVec 32 := 1#32
  ⟨c0_i32_17, v27, c1_i32⟩
def k0_off1 (i : grid0.Coords) (k0_t1 : Fin k0_t1_loop.trips) : Fin 2 → Nat :=
  let c0_24 : Index := 0#32
  let arg0 : BitVec 32 := BitVec.ofNat 32 (i 0).val
  let c128_i32 : BitVec 32 := 128#32
  let v3 : BitVec 32 := Scalar.muli arg0 c128_i32
  let c0_i32_17 : BitVec 32 := 0#32
  let c1_i32 : BitVec 32 := 1#32
  let arg18 : BitVec 32 := Scf.iv c0_i32_17 c1_i32 k0_t1
  let v35 : BitVec 32 := Scalar.addi v3 arg18
  let v36 : Index := Scalar.indexCast v35
  ![0, v36.toNat]
def k0_off2 (k0_t1 : Fin k0_t1_loop.trips) : Fin 2 → Nat :=
  let c0_i32_17 : BitVec 32 := 0#32
  let c1_i32 : BitVec 32 := 1#32
  let arg18 : BitVec 32 := Scf.iv c0_i32_17 c1_i32 k0_t1
  let v61 : Index := Scalar.indexCast arg18
  let c0_31 : Index := 0#32
  ![v61.toNat, 0]
def k0_cond4 (i : grid0.Coords) : BitVec 1 :=
  let arg0 : BitVec 32 := BitVec.ofNat 32 (i 0).val
  let c0_i32_10 : BitVec 32 := 0#32
  let v19 : BitVec 1 := Scalar.cmpi .eq arg0 c0_i32_10
  let v20 : BitVec 32 := Scalar.extui v19
  let c0_i32_11 : BitVec 32 := 0#32
  let v21 : BitVec 1 := Scalar.cmpi .ne v20 c0_i32_11
  v21

@[reducible] def k0_t2_loop : Scf.Loop 32 :=
  let c0_i32_16 : BitVec 32 := 0#32
  let c128_i32_17 : BitVec 32 := 128#32
  let v26 : BitVec 32 := Scalar.addi c0_i32_16 c128_i32_17
  let c1_i32 : BitVec 32 := 1#32
  ⟨c0_i32_16, v26, c1_i32⟩
def k0_off3 (i : grid0.Coords) (k0_t2 : Fin k0_t2_loop.trips) : Fin 2 → Nat :=
  let c0_21 : Index := 0#32
  let arg0 : BitVec 32 := BitVec.ofNat 32 (i 0).val
  let c128_i32 : BitVec 32 := 128#32
  let v3 : BitVec 32 := Scalar.muli arg0 c128_i32
  let c0_i32_16 : BitVec 32 := 0#32
  let c1_i32 : BitVec 32 := 1#32
  let arg18 : BitVec 32 := Scf.iv c0_i32_16 c1_i32 k0_t2
  let v31 : BitVec 32 := Scalar.addi v3 arg18
  let v32 : Index := Scalar.indexCast v31
  ![0, v32.toNat]
def k0_off4 (k0_t2 : Fin k0_t2_loop.trips) : Fin 2 → Nat :=
  let c0_i32_16 : BitVec 32 := 0#32
  let c1_i32 : BitVec 32 := 1#32
  let arg18 : BitVec 32 := Scf.iv c0_i32_16 c1_i32 k0_t2
  let v57 : Index := Scalar.indexCast arg18
  let c0_28 : Index := 0#32
  ![v57.toNat, 0]
def k0_cond5 (i : grid0.Coords) : BitVec 1 :=
  let arg0 : BitVec 32 := BitVec.ofNat 32 (i 0).val
  let c64_i32_12 : BitVec 32 := 64#32
  let v22 : BitVec 1 := Scalar.cmpi .eq arg0 c64_i32_12
  let v23 : BitVec 32 := Scalar.extui v22
  let c0_i32_13 : BitVec 32 := 0#32
  let v24 : BitVec 1 := Scalar.cmpi .ne v23 c0_i32_13
  v24

@[reducible] def k0_t3_loop : Scf.Loop 32 :=
  let c0_i32_15 : BitVec 32 := 0#32
  let c128_i32_16 : BitVec 32 := 128#32
  let v26 : BitVec 32 := Scalar.addi c0_i32_15 c128_i32_16
  let c1_i32 : BitVec 32 := 1#32
  ⟨c0_i32_15, v26, c1_i32⟩
def k0_off5 (k0_t3 : Fin k0_t3_loop.trips) : Fin 2 → Nat :=
  let c0_i32_15 : BitVec 32 := 0#32
  let c1_i32 : BitVec 32 := 1#32
  let arg18 : BitVec 32 := Scf.iv c0_i32_15 c1_i32 k0_t3
  let v33 : Index := Scalar.indexCast arg18
  let c0_24 : Index := 0#32
  ![v33.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S1x8192 : Shape := ⟨2, ![1, 8192]⟩
abbrev S2x1x2048 : Shape := ⟨3, ![2, 1, 2048]⟩
abbrev S2048x1 : Shape := ⟨2, ![2048, 1]⟩
abbrev S2048x2048 : Shape := ⟨2, ![2048, 2048]⟩
abbrev S2048 : Shape := ⟨1, ![2048]⟩
abbrev S8192x1 : Shape := ⟨2, ![8192, 1]⟩
abbrev S8192x1x1 : Shape := ⟨3, ![8192, 1, 1]⟩
abbrev S1x1x2048 : Shape := ⟨3, ![1, 1, 2048]⟩
abbrev S1x2048 : Shape := ⟨2, ![1, 2048]⟩
abbrev S8192x1x2048 : Shape := ⟨3, ![8192, 1, 2048]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S2x1x2048, .f32⟩
  | .hbm, ⟨2, _⟩ => ⟨S2048x1, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S8192x1, .f32⟩
  | .hbm, ⟨11, _⟩ => ⟨S8192x1x1, .f32⟩
  | .hbm, ⟨12, _⟩ => ⟨S1x1x2048, .f32⟩
  | .hbm, ⟨13, _⟩ => ⟨S1x2048, .f32⟩
  | .hbm, ⟨14, _⟩ => ⟨S8192x1x2048, .f32⟩
  | .hbm, ⟨15, _⟩ => ⟨S1x1x2048, .f32⟩
  | .hbm, ⟨16, _⟩ => ⟨S8192x1x2048, .f32⟩
  | .hbm, ⟨17, _⟩ => ⟨S8192x1x2048, .f32⟩
  | .hbm, ⟨18, _⟩ => ⟨S_, .f32⟩
  | .hbm, ⟨19, _⟩ => ⟨S8192x1x2048, .f32⟩
  | .hbm, ⟨20, _⟩ => ⟨S_, .i32⟩
  | .hbm, ⟨21, _⟩ => ⟨S8192x1x2048, .f32⟩
  | .hbm, ⟨22, _⟩ => ⟨S2048x2048, .f32⟩
  | .hbm, ⟨23, _⟩ => ⟨S2048, .f32⟩
  | .hbm, ⟨24, _⟩ => ⟨S_, .i32⟩
  | .hbm, ⟨25, _⟩ => ⟨S1x2048, .f32⟩
  | .hbm, ⟨26, _⟩ => ⟨S8192x1x2048, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S1x1x2048, .f32⟩
  | .hbm, ⟨32, _⟩ => ⟨S1x2048, .f32⟩
  | .hbm, ⟨33, _⟩ => ⟨S2048x2048, .f32⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S1x2048, .f32⟩
  | .hbm, ⟨39, _⟩ => ⟨S1x1x2048, .f32⟩
  | .hbm, ⟨40, _⟩ => ⟨S_, .i32⟩
  | .hbm, ⟨41, _⟩ => ⟨S_, .i32⟩
  | .hbm, ⟨42, _⟩ => ⟨S8192x1x2048, .f32⟩
  | .hbm, ⟨43, _⟩ => ⟨S_, .i32⟩
  | .hbm, ⟨44, _⟩ => ⟨S_, .i32⟩
  | .hbm, ⟨45, _⟩ => ⟨S1x1x2048, .f32⟩
  | .hbm, ⟨46, _⟩ => ⟨S1x2048, .f32⟩
  | .hbm, ⟨47, _⟩ => ⟨S8192x1x2048, .f32⟩
  | .hbm, ⟨48, _⟩ => ⟨S1x1x2048, .f32⟩
  | .hbm, ⟨49, _⟩ => ⟨S8192x1x2048, .f32⟩
  | .hbm, ⟨50, _⟩ => ⟨S8192x1x2048, .f32⟩
  | .hbm, ⟨51, _⟩ => ⟨S_, .f32⟩
  | .hbm, ⟨52, _⟩ => ⟨S8192x1x2048, .f32⟩
  | .hbm, ⟨53, _⟩ => ⟨S_, .i32⟩
  | .hbm, ⟨54, _⟩ => ⟨S8192x1x2048, .f32⟩
  | .hbm, ⟨55, _⟩ => ⟨S2048x2048, .f32⟩
  | .hbm, ⟨56, _⟩ => ⟨S2048, .f32⟩
  | .hbm, ⟨57, _⟩ => ⟨S_, .i32⟩
  | .hbm, ⟨58, _⟩ => ⟨S1x2048, .f32⟩
  | .hbm, ⟨59, _⟩ => ⟨S8192x1x2048, .f32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1x1x2048, .f32⟩
  | .hbm, ⟨65, _⟩ => ⟨S1x2048, .f32⟩
  | .hbm, ⟨66, _⟩ => ⟨S2048x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S1x2048, .f32⟩
  | .hbm, ⟨72, _⟩ => ⟨S1x1x2048, .f32⟩
  | .hbm, ⟨73, _⟩ => ⟨S_, .i32⟩
  | .hbm, ⟨74, _⟩ => ⟨S_, .i32⟩
  | .hbm, ⟨75, _⟩ => ⟨S8192x1x2048, .f32⟩
  | .hbm, ⟨76, _⟩ => ⟨S_, .i32⟩
  | .hbm, ⟨77, _⟩ => ⟨S_, .i32⟩
  | .hbm, ⟨78, _⟩ => ⟨S1x1x2048, .f32⟩
  | .hbm, ⟨79, _⟩ => ⟨S1x1x2048, .f32⟩
  | .hbm, ⟨80, _⟩ => ⟨S2x1x2048, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_while0c_c_7 : Ref sig .tc := ⟨.hbm, 27, rfl⟩
abbrev main_while0c_v21 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v21 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_v25 : Ref sig .tc := ⟨.hbm, 36, rfl⟩
abbrev main_while0b_v26 : Ref sig .tc := ⟨.hbm, 37, rfl⟩
abbrev main_while0b_v27 : Ref sig .tc := ⟨.hbm, 38, rfl⟩
abbrev main_while0b_call1_v0 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_v28 : Ref sig .tc := ⟨.hbm, 42, rfl⟩
abbrev main_while0b_c_7 : Ref sig .tc := ⟨.hbm, 43, rfl⟩
abbrev main_while0b_v29 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_0 : Ref sig .tc := ⟨.hbm, 51, rfl⟩
abbrev main_v16 : Ref sig .tc := ⟨.hbm, 52, rfl⟩
abbrev main_c_1 : Ref sig .tc := ⟨.hbm, 53, rfl⟩
abbrev main_v17_0 : Ref sig .tc := ⟨.hbm, 54, rfl⟩
abbrev main_v17_1 : Ref sig .tc := ⟨.hbm, 55, rfl⟩
abbrev main_v17_2 : Ref sig .tc := ⟨.hbm, 56, rfl⟩
abbrev main_v17_3 : Ref sig .tc := ⟨.hbm, 57, rfl⟩
abbrev main_v17_4 : Ref sig .tc := ⟨.hbm, 58, rfl⟩
abbrev main_v17_5 : Ref sig .tc := ⟨.hbm, 59, rfl⟩
abbrev main_while1c_c_7 : Ref sig .tc := ⟨.hbm, 60, rfl⟩
abbrev main_while1c_v21 : Ref sig .tc := ⟨.hbm, 61, rfl⟩
abbrev main_while1b_call2_c : Ref sig .tc := ⟨.hbm, 62, rfl⟩
abbrev main_while1b_call2_c_0 : Ref sig .tc := ⟨.hbm, 63, rfl⟩
abbrev main_while1b_call2_v0 : Ref sig .tc := ⟨.hbm, 64, rfl⟩
abbrev main_while1b_v21 : Ref sig .tc := ⟨.hbm, 65, rfl⟩
abbrev main_while1b_v22 : Ref sig .tc := ⟨.hbm, 66, rfl⟩
abbrev main_while1b_v23 : Ref sig .tc := ⟨.hbm, 67, rfl⟩
abbrev main_while1b_v24 : Ref sig .tc := ⟨.hbm, 68, rfl⟩
abbrev main_while1b_v25 : Ref sig .tc := ⟨.hbm, 69, rfl⟩
abbrev main_while1b_v26 : Ref sig .tc := ⟨.hbm, 70, rfl⟩
abbrev main_while1b_v27 : Ref sig .tc := ⟨.hbm, 71, rfl⟩
abbrev main_while1b_call3_v0 : Ref sig .tc := ⟨.hbm, 72, rfl⟩
abbrev main_while1b_call3_c : Ref sig .tc := ⟨.hbm, 73, rfl⟩
abbrev main_while1b_call3_c_0 : Ref sig .tc := ⟨.hbm, 74, rfl⟩
abbrev main_while1b_v28 : Ref sig .tc := ⟨.hbm, 75, rfl⟩
abbrev main_while1b_c_7 : Ref sig .tc := ⟨.hbm, 76, rfl⟩
abbrev main_while1b_v29 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩

abbrev nD : Nat := 1
abbrev τ : Topo := Topo.v7x

variable {F : FTy → Type} [FloatOps F]

abbrev main_while0_count : Scf.Loop 32 := ⟨0#32, 8192#32, 1#32⟩

abbrev main_while1_count : Scf.Loop 32 := ⟨0#32, 8192#32, 1#32⟩
-- ==== Proof.Steps.lean ====
/-
  What the kernel's grid points compute, as plain recursions over the 8192 time steps: the two recurrent steps, the
  matrix of pre-activations between the layers, and the sequence of hidden states of each layer.
-/
module

public import proofs.«01_k».proof.Proof.Gen.KernelIdeal.Skeleton
public import proofs.«01_k».proof.Proof.Gen.KernelIdeal.Loops
public import Idealize.ShloMosaic.Lib.ValueIdxCore
public import Idealize.ShloMosaic.Lib.Pipeline.Value

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

/-- Entry `n` of the input row. -/
def xAt (x : Vec F S1x8192 .f32) (n : ℕ) : Elt F .f32 := x (ix2 (0 : Fin 1) (Fin.ofNat 8192 n))

/-- Row `k` of a 128-row block. -/
def rowOf (M : Vec F S128x2048 .f32) (k : ℕ) : Vec F S1x2048 .f32 := fun j => M (ix2 (Fin.ofNat 128 k) (j 1))

/-- Row `k` of the 2-row carry. -/
def carryRow (M : Vec F S2x2048 .f32) (k : Fin 2) : Vec F S1x2048 .f32 := fun j => M (ix2 k (j 1))

/-- The 2-row carry made of two rows. -/
def carryOf (a b : Vec F S1x2048 .f32) : Vec F S2x2048 .f32 :=
  fun j => if (j 0).val = 0 then a (ix2 (0 : Fin 1) (j 1)) else b (ix2 (0 : Fin 1) (j 1))

/-- The state before step `n` of a recursion whose step number is known to it. -/
def chain {α : Type} (f : ℕ → α → α) (a : α) : ℕ → α
  | 0 => a
  | n + 1 => f n (chain f a n)

/-- Running `m + n` steps is running `m` and then `n` more. -/
theorem chain_add {α : Type} (f : ℕ → α → α) (a : α) (m n : ℕ) :
    chain f a (m + n) = chain (fun k => f (m + k)) (chain f a m) n := by
  induction n with
  | zero => rfl
  | succ n ih => exact congrArg (f (m + n)) ih

/-- Two recursions with the same steps give the same state. -/
theorem chain_congr {α : Type} (f g : ℕ → α → α) (a : α) (n : ℕ) (h : ∀ k, k < n → f k = g k) :
    chain f a n = chain g a n := by
  induction n with
  | zero => rfl
  | succ n ih =>
    show f n (chain f a n) = g n (chain g a n)
    rw [ih fun k hk => h k (Nat.lt_succ_of_lt hk), h n (Nat.lt_succ_self n)]

/-- One step of layer 0, as the kernel computes it. -/
def step0 (w b b' : Vec F S1x2048 .f32) (hi : Vec F S2048x2048 .bf16) (lo : Vec F S2048x2048 .fp8e4m3)
    (xt : Elt F .f32) (h : Vec F S1x2048 .f32) : Vec F S1x2048 .f32 := k0_pay8 w b b' h xt hi lo

/-- One step of layer 1, as the kernel computes it, from the step's row of pre-activations. -/
def step1 (hi : Vec F S2048x2048 .bf16) (lo : Vec F S2048x2048 .fp8e4m3)
    (xr : Vec F S1x2048 .f32) (h : Vec F S1x2048 .f32) : Vec F S1x2048 .f32 := k0_pay11 h xr hi lo

/-- The pre-activations of layer 1 for a block of 128 states of layer 0, as the kernel computes them. -/
def preact (hi : Vec F S2048x2048 .bf16) (lo : Vec F S2048x2048 .fp8e4m3) (b b' : Vec F S1x2048 .f32)
    (hs : Vec F S128x2048 .f32) : Vec F S128x2048 .f32 :=
  k0_pay4 (k0_pay15 hs (k0_pay14 hs hi b b') hi) (k0_pay16 hs lo)

/-- The block whose row `k` is state `k + 1` of a sequence of states. -/
def statesOf (f : ℕ → Vec F S1x2048 .f32) : Vec F S128x2048 .f32 := fun j => f ((j 0).val + 1) (ix2 (0 : Fin 1) (j 1))

/-- The steady point's step of layer 0 is the first point's. -/
theorem pay17_eq (w b b' h : Vec F S1x2048 .f32) (xt : Elt F .f32) (hi : Vec F S2048x2048 .bf16) (lo : Vec F S2048x2048 .fp8e4m3) :
    k0_pay17 (k0_pay2 w) (k0_pay3 b b') h xt hi lo = step0 w b b' hi lo xt h := by
  unfold step0 k0_pay17 k0_pay8 k0_pay2 k0_pay3
  rfl

/-- The steady point's step of layer 1 is the last point's. -/
theorem pay5_eq (xr h : Vec F S1x2048 .f32) (hi : Vec F S2048x2048 .bf16) (lo : Vec F S2048x2048 .fp8e4m3) :
    k0_pay5 xr (k0_pay20 h hi) (k0_pay21 h) (k0_pay22 lo) = step1 hi lo xr h := by
  unfold step1 k0_pay5 k0_pay20 k0_pay21 k0_pay22 k0_pay19 k0_pay11
  rfl

/-- The printed payload is a step of layer 0. -/
theorem pay9_eq (w b b' h : Vec F S1x2048 .f32) (xt : Elt F .f32) (hi : Vec F S2048x2048 .bf16) (lo : Vec F S2048x2048 .fp8e4m3) :
    k0_pay9 w b b' h xt hi lo = step0 w b b' hi lo xt h := by
  unfold k0_pay9
  exact shapeCast_self _ _

/-- The printed payload is a step of layer 0. -/
theorem pay18_eq (w b b' h : Vec F S1x2048 .f32) (xt : Elt F .f32) (hi : Vec F S2048x2048 .bf16) (lo : Vec F S2048x2048 .fp8e4m3) :
    k0_pay18 (k0_pay2 w) (k0_pay3 b b') h xt hi lo = step0 w b b' hi lo xt h := by
  unfold k0_pay18
  exact (shapeCast_self _ _).trans (pay17_eq w b b' h xt hi lo)

/-- The printed payload is a step of layer 0. -/
theorem pay8_eq (w b b' h : Vec F S1x2048 .f32) (xt : Elt F .f32) (hi : Vec F S2048x2048 .bf16) (lo : Vec F S2048x2048 .fp8e4m3) :
    k0_pay8 w b b' h xt hi lo = step0 w b b' hi lo xt h := rfl

/-- The printed payload is a step of layer 1. -/
theorem pay11_eq (xr h : Vec F S1x2048 .f32) (hi : Vec F S2048x2048 .bf16) (lo : Vec F S2048x2048 .fp8e4m3) :
    k0_pay11 h xr hi lo = step1 hi lo xr h := rfl

end Cert.KernelIdeal.Hand
-- ==== Proof.Loops.lean ====
/-
  The three counted loops of the kernel's body by value: what each carries before trip `n`, and what it has written,
  are the plain recursions of the module the body's values are stated in.
-/
module

public import proofs.«01_k».proof.Proof.Steps
public import Idealize.ShloMosaic.Lib.VecWindow
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

/-- A one-row load of a 128-row block is that row. -/
theorem readAt_row (v : View sig .tc .vmem S128x2048 .f32) (X : v.ty.Contents (Elt F)) (k : ℕ) (hk : k < 128)
    {off : Fin 2 → ℕ} (inb : ∀ a, off a + S1x2048.size a ≤ S128x2048.size a) (h : off = ![k, 0]) :
    v.readAt (Elt F) (Rect.unit (s := S128x2048) off S1x2048.size inb).toLoadRect X = rowOf (v.read (Elt F) X) k := by
  subst h
  funext j
  refine congrArg (v.read (Elt F) X) (funext fun a => Fin.ext ?_)
  match a with
  | ⟨0, _⟩ =>
    have h0 : (j 0).val < 1 := (j 0).isLt
    show k + 1 * (j 0).val = k % 128
    omega
  | ⟨1, _⟩ => show 0 + 1 * (j 1).val = (j 1).val; omega

/-- A one-entry load of the input row is that entry. -/
theorem readAt_entry (v : View sig .tc .smem S1x8192 .f32) (X : v.ty.Contents (Elt F)) (n : ℕ) (hn : n < 8192)
    {off : Fin 2 → ℕ} (inb : ∀ a, off a + S1x1.size a ≤ S1x8192.size a) (h : off = ![0, n]) (y : S1x1.Idx) :
    v.readAt (Elt F) (Rect.unit (s := S1x8192) off S1x1.size inb).toLoadRect X y = xAt (v.read (Elt F) X) n := by
  subst h
  refine congrArg (v.read (Elt F) X) (funext fun a => Fin.ext ?_)
  match a with
  | ⟨0, _⟩ =>
    have h0 : (y 0).val < 1 := (y 0).isLt
    show 0 + 1 * (y 0).val = 0
    omega
  | ⟨1, _⟩ =>
    have h0 : (y 1).val < 1 := (y 1).isLt
    show n + 1 * (y 1).val = n % 8192
    omega

/-- Writing row `k` of a 128-row block, read at an index. -/
theorem read_write_row (v : View sig .tc .vmem S128x2048 .f32) (f : v.ty.Contents (Elt F)) (k : ℕ)
    {off : Fin 2 → ℕ} (inb : ∀ a, off a + S1x2048.size a ≤ S128x2048.size a) (h : off = ![k, 0])
    (w : Vec F S1x2048 .f32) (L : List (View.Piece (Elt F) S128x2048 .f32)) (y : S128x2048.Idx) :
    v.read (Elt F) (v.writes (Elt F) f (⟨Rect.unit (s := S128x2048) off S1x2048.size inb, w⟩ :: L)) y
      = if (y 0).val = k then w (ix2 (0 : Fin 1) (y 1)) else v.read (Elt F) (v.writes (Elt F) f L) y := by
  by_cases hy : (y 0).val = k
  · rw [if_pos hy]
    exact View.read_writes_cons_unit_of_mem v f inb w L y (ix2 (0 : Fin 1) (y 1)) h
      (fun a => match a with
        | ⟨0, _⟩ => hy.trans (Nat.add_zero k).symm
        | ⟨1, _⟩ => (Nat.zero_add _).symm)
  · rw [if_neg hy]
    exact View.read_writes_cons_unit_of_not_mem v f inb w L y h 0 (by
      show (y 0).val < k ∨ k + 1 ≤ (y 0).val
      omega)

/-- Loop 1 of the kernel makes 128 trips. -/
theorem trips1 : k0_t1_loop.trips = 128 := by decide +kernel
/-- Loop 2 of the kernel makes 128 trips. -/
theorem trips2 : k0_t2_loop.trips = 128 := by decide +kernel
/-- Loop 3 of the kernel makes 128 trips. -/
theorem trips3 : k0_t3_loop.trips = 128 := by decide +kernel

/-- The steady grid points are below 64. -/
theorem i_lt64 : ∀ i : grid0.Coords, k0_cond3 i = 1#1 → (i 0).val < 64 := by decide +kernel
/-- The first grid point is point 0. -/
theorem i_eq0 : ∀ i : grid0.Coords, k0_cond4 i = 1#1 → (i 0).val = 0 := by decide +kernel

/-- What trip `k` of the loop `k0_t1_loop` yields. -/
theorem tripR1_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v3 : BitVec 32) (v4 : Vec F S1x2048 .f32) (v6 : Vec F S1x2048 .f32) (v8 : Vec F S1x2048 .f32) (k0_h3 : k0_cond3 i = 1#1) (X_arg1 : BufTy.Contents (Elt F) arg1.view.ty) (X_arg6 : BufTy.Contents (Elt F) arg6.view.ty) (X_arg7 : BufTy.Contents (Elt F) arg7.view.ty) (X_arg12 : BufTy.Contents (Elt F) arg12.view.ty) (X_arg13 : BufTy.Contents (Elt F) arg13.view.ty) (X_arg16 : BufTy.Contents (Elt F) arg16.view.ty) (k : Fin k0_t1_loop.trips) (acc : Vec F S1x2048 .f32 × Vec F S1x2048 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 k acc = (step0 v4 v6 v8 (arg6.view.read (Elt F) X_arg6) (arg7.view.read (Elt F) X_arg7) (xAt (arg1.view.read (Elt F) X_arg1) (128 * (i 0).val + k.val)) acc.1, step1 (arg12.view.read (Elt F) X_arg12) (arg13.view.read (Elt F) X_arg13) (rowOf (arg16.view.read (Elt F) X_arg16) k.val) acc.2) := by
  have hk : k.val < 128 := Nat.lt_of_lt_of_le k.isLt k0_t1_abs.2.1
  have hi : (i 0).val < 65 := (i 0).isLt
  have hi64 : 128 * (i 0).val + k.val < 8192 := by
    have := (i_lt64 i k0_h3); omega
  have ex : trip_k0_t1.sl.r i arg1 k0_h3 X_arg1 k = xAt (arg1.view.read (Elt F) X_arg1) (128 * (i 0).val + k.val) :=
    readAt_entry (F := F) arg1.view X_arg1 _ hi64 (k0_off1_inb i k k0_h3) (k0_off1_eq i k) _
  have er := readAt_row (F := F) arg16.view X_arg16 k.val hk (k0_off2_inb i k k0_h3) (k0_off2_eq k)
  have e6 := View.readAt_full arg6.view X_arg6 inb_S2048x2048_S2048x2048_0_0
  have e7 := View.readAt_full arg7.view X_arg7 inb_S2048x2048_S2048x2048_0_0
  have e12 := View.readAt_full arg12.view X_arg12 inb_S2048x2048_S2048x2048_0_0
  have e13 := View.readAt_full arg13.view X_arg13 inb_S2048x2048_S2048x2048_0_0
  unfold tripR_k0_t1 trip_k0_t1
  dsimp only
  simp only [trip_k0_t1.sl.r_1, trip_k0_t1.sl.r_2, trip_k0_t1.sl.r_3, trip_k0_t1.sl.r_4, trip_k0_t1.sl.r_5, ex, er, e6, e7, e12, e13, pay17_eq, pay5_eq, pay8_eq, pay11_eq]

/-- What trip `k` of the loop `k0_t1_loop` writes into the block of states. -/
theorem tripL1_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v3 : BitVec 32) (v4 : Vec F S1x2048 .f32) (v6 : Vec F S1x2048 .f32) (v8 : Vec F S1x2048 .f32) (k0_h3 : k0_cond3 i = 1#1) (X_arg1 : BufTy.Contents (Elt F) arg1.view.ty) (X_arg6 : BufTy.Contents (Elt F) arg6.view.ty) (X_arg7 : BufTy.Contents (Elt F) arg7.view.ty) (X_arg12 : BufTy.Contents (Elt F) arg12.view.ty) (X_arg13 : BufTy.Contents (Elt F) arg13.view.ty) (X_arg16 : BufTy.Contents (Elt F) arg16.view.ty) (k : Fin k0_t1_loop.trips) (acc : Vec F S1x2048 .f32 × Vec F S1x2048 .f32) (f : BufTy.Contents (Elt F) arg15.view.ty) (L : List (View.Piece (Elt F) S128x2048 .f32)) (y : S128x2048.Idx) :
    arg15.view.read (Elt F) (arg15.view.writes (Elt F) f (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 k acc ++ L)) y
      = if (y 0).val = k.val then (tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 k acc).1 (ix2 (0 : Fin 1) (y 1))
        else arg15.view.read (Elt F) (arg15.view.writes (Elt F) f L) y := by
  unfold tripL_k0_t1 tripR_k0_t1 trip_k0_t1
  dsimp only
  rw [List.singleton_append, read_write_row arg15.view f k.val _ (k0_off2_eq k)]
  refine if_congr Iff.rfl (congrFun ?_ _) rfl
  simp only [trip_k0_t1.sl.r_1, pay18_eq, pay17_eq]

/-- What the loop `k0_t1_loop` carries, and has written, before trip `n`. -/
theorem st1_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v3 : BitVec 32) (v4 : Vec F S1x2048 .f32) (v6 : Vec F S1x2048 .f32) (v8 : Vec F S1x2048 .f32) (k0_h3 : k0_cond3 i = 1#1) (X_arg1 : BufTy.Contents (Elt F) arg1.view.ty) (X_arg6 : BufTy.Contents (Elt F) arg6.view.ty) (X_arg7 : BufTy.Contents (Elt F) arg7.view.ty) (X_arg12 : BufTy.Contents (Elt F) arg12.view.ty) (X_arg13 : BufTy.Contents (Elt F) arg13.view.ty) (X_arg16 : BufTy.Contents (Elt F) arg16.view.ty)  (init : Vec F S1x2048 .f32 × Vec F S1x2048 .f32) (n : ℕ) (hn : n ≤ 128) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 init n).1 = (chain (fun k => step0 v4 v6 v8 (arg6.view.read (Elt F) X_arg6) (arg7.view.read (Elt F) X_arg7) (xAt (arg1.view.read (Elt F) X_arg1) (128 * (i 0).val + k))) init.1 n, chain (fun k => step1 (arg12.view.read (Elt F) X_arg12) (arg13.view.read (Elt F) X_arg13) (rowOf (arg16.view.read (Elt F) X_arg16) k)) init.2 n)
      ∧ ∀ (f : BufTy.Contents (Elt F) arg15.view.ty) (y : S128x2048.Idx), arg15.view.read (Elt F) (arg15.view.writes (Elt F) f (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 init n).2) y
        = if (y 0).val < n then chain (fun k => step0 v4 v6 v8 (arg6.view.read (Elt F) X_arg6) (arg7.view.read (Elt F) X_arg7) (xAt (arg1.view.read (Elt F) X_arg1) (128 * (i 0).val + k))) init.1 ((y 0).val + 1) (ix2 (0 : Fin 1) (y 1)) else arg15.view.read (Elt F) f y := by
  induction n with
  | zero => exact ⟨rfl, fun f y => (if_neg (Nat.not_lt_zero _)).symm⟩
  | succ n ih =>
    obtain ⟨ih1, ih2⟩ := ih (by omega)
    have hs := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 init ⟨n, by rw [trips1]; omega⟩
    have hs1 := congrArg Prod.fst hs
    have hs2 := congrArg Prod.snd hs
    dsimp only at hs1 hs2
    rw [ih1] at hs1 hs2
    refine ⟨hs1.trans (tripR1_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v3 v4 v6 v8 k0_h3 X_arg1 X_arg6 X_arg7 X_arg12 X_arg13 X_arg16 _ _), fun f y => ?_⟩
    rw [hs2, tripL1_eq, ih2 f y, tripR1_eq]
    by_cases h : (y 0).val = n
    · rw [if_pos h, if_pos (by omega), h]; rfl
    · rw [if_neg h]
      by_cases h' : (y 0).val < n
      · rw [if_pos h', if_pos (by omega)]
      · rw [if_neg h', if_neg (by omega)]

/-- What trip `k` of the loop `k0_t2_loop` yields. -/
theorem tripR2_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v4 : Vec F S1x2048 .f32) (v6 : Vec F S1x2048 .f32) (v8 : Vec F S1x2048 .f32) (k0_h4 : k0_cond4 i = 1#1) (X_arg1 : BufTy.Contents (Elt F) arg1.view.ty) (X_arg6 : BufTy.Contents (Elt F) arg6.view.ty) (X_arg7 : BufTy.Contents (Elt F) arg7.view.ty) (k : Fin k0_t2_loop.trips) (acc : Vec F S1x2048 .f32) :
    tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 k acc = step0 v4 v6 v8 (arg6.view.read (Elt F) X_arg6) (arg7.view.read (Elt F) X_arg7) (xAt (arg1.view.read (Elt F) X_arg1) (128 * (i 0).val + k.val)) acc := by
  have hk : k.val < 128 := Nat.lt_of_lt_of_le k.isLt k0_t2_abs.2.1
  have hi : (i 0).val < 65 := (i 0).isLt
  have hi64 : 128 * (i 0).val + k.val < 8192 := by
    have := (i_eq0 i k0_h4); omega
  have ex : trip_k0_t2.sl.r i arg1 k0_h4 X_arg1 k = xAt (arg1.view.read (Elt F) X_arg1) (128 * (i 0).val + k.val) :=
    readAt_entry (F := F) arg1.view X_arg1 _ hi64 (k0_off3_inb i k k0_h4) (k0_off3_eq i k) _
  have e6 := View.readAt_full arg6.view X_arg6 inb_S2048x2048_S2048x2048_0_0
  have e7 := View.readAt_full arg7.view X_arg7 inb_S2048x2048_S2048x2048_0_0
  unfold tripR_k0_t2 trip_k0_t2
  dsimp only
  simp only [ex, e6, e7, pay17_eq, pay5_eq, pay8_eq, pay11_eq]

/-- What trip `k` of the loop `k0_t2_loop` writes into the block of states. -/
theorem tripL2_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v4 : Vec F S1x2048 .f32) (v6 : Vec F S1x2048 .f32) (v8 : Vec F S1x2048 .f32) (k0_h4 : k0_cond4 i = 1#1) (X_arg1 : BufTy.Contents (Elt F) arg1.view.ty) (X_arg6 : BufTy.Contents (Elt F) arg6.view.ty) (X_arg7 : BufTy.Contents (Elt F) arg7.view.ty) (k : Fin k0_t2_loop.trips) (acc : Vec F S1x2048 .f32) (f : BufTy.Contents (Elt F) arg15.view.ty) (L : List (View.Piece (Elt F) S128x2048 .f32)) (y : S128x2048.Idx) :
    arg15.view.read (Elt F) (arg15.view.writes (Elt F) f (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 k acc ++ L)) y
      = if (y 0).val = k.val then (tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 k acc) (ix2 (0 : Fin 1) (y 1))
        else arg15.view.read (Elt F) (arg15.view.writes (Elt F) f L) y := by
  unfold tripL_k0_t2 tripR_k0_t2 trip_k0_t2
  dsimp only
  rw [List.singleton_append, read_write_row arg15.view f k.val _ (k0_off4_eq k)]
  refine if_congr Iff.rfl (congrFun ?_ _) rfl
  simp only [pay9_eq, pay8_eq]

/-- What the loop `k0_t2_loop` carries, and has written, before trip `n`. -/
theorem st2_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (v4 : Vec F S1x2048 .f32) (v6 : Vec F S1x2048 .f32) (v8 : Vec F S1x2048 .f32) (k0_h4 : k0_cond4 i = 1#1) (X_arg1 : BufTy.Contents (Elt F) arg1.view.ty) (X_arg6 : BufTy.Contents (Elt F) arg6.view.ty) (X_arg7 : BufTy.Contents (Elt F) arg7.view.ty)  (init : Vec F S1x2048 .f32) (n : ℕ) (hn : n ≤ 128) :
    (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 init n).1 = chain (fun k => step0 v4 v6 v8 (arg6.view.read (Elt F) X_arg6) (arg7.view.read (Elt F) X_arg7) (xAt (arg1.view.read (Elt F) X_arg1) (128 * (i 0).val + k))) init n
      ∧ ∀ (f : BufTy.Contents (Elt F) arg15.view.ty) (y : S128x2048.Idx), arg15.view.read (Elt F) (arg15.view.writes (Elt F) f (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 init n).2) y
        = if (y 0).val < n then chain (fun k => step0 v4 v6 v8 (arg6.view.read (Elt F) X_arg6) (arg7.view.read (Elt F) X_arg7) (xAt (arg1.view.read (Elt F) X_arg1) (128 * (i 0).val + k))) init ((y 0).val + 1) (ix2 (0 : Fin 1) (y 1)) else arg15.view.read (Elt F) f y := by
  induction n with
  | zero => exact ⟨rfl, fun f y => (if_neg (Nat.not_lt_zero _)).symm⟩
  | succ n ih =>
    obtain ⟨ih1, ih2⟩ := ih (by omega)
    have hs := st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 init ⟨n, by rw [trips2]; omega⟩
    have hs1 := congrArg Prod.fst hs
    have hs2 := congrArg Prod.snd hs
    dsimp only at hs1 hs2
    rw [ih1] at hs1 hs2
    refine ⟨hs1.trans (tripR2_eq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v4 v6 v8 k0_h4 X_arg1 X_arg6 X_arg7 _ _), fun f y => ?_⟩
    rw [hs2, tripL2_eq, ih2 f y, tripR2_eq]
    by_cases h : (y 0).val = n
    · rw [if_pos h, if_pos (by omega), h]; rfl
    · rw [if_neg h]
      by_cases h' : (y 0).val < n
      · rw [if_pos h', if_pos (by omega)]
      · rw [if_neg h', if_neg (by omega)]

/-- What trip `k` of the loop `k0_t3_loop` yields. -/
theorem tripR3_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (k0_h5 : k0_cond5 i = 1#1) (X_arg12 : BufTy.Contents (Elt F) arg12.view.ty) (X_arg13 : BufTy.Contents (Elt F) arg13.view.ty) (X_arg16 : BufTy.Contents (Elt F) arg16.view.ty) (k : Fin k0_t3_loop.trips) (acc : Vec F S1x2048 .f32) :
    tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h5 X_arg12 X_arg13 X_arg16 k acc = step1 (arg12.view.read (Elt F) X_arg12) (arg13.view.read (Elt F) X_arg13) (rowOf (arg16.view.read (Elt F) X_arg16) k.val) acc := by
  have hk : k.val < 128 := Nat.lt_of_lt_of_le k.isLt k0_t3_abs.2.1
  have er := readAt_row (F := F) arg16.view X_arg16 k.val hk (k0_off5_inb i k k0_h5) (k0_off5_eq k)
  have e12 := View.readAt_full arg12.view X_arg12 inb_S2048x2048_S2048x2048_0_0
  have e13 := View.readAt_full arg13.view X_arg13 inb_S2048x2048_S2048x2048_0_0
  unfold tripR_k0_t3 trip_k0_t3
  dsimp only
  simp only [er, e12, e13, pay17_eq, pay5_eq, pay8_eq, pay11_eq]

/-- What the loop `k0_t3_loop` carries, and has written, before trip `n`. -/
theorem st3_eq (𝒱 : Variants) (c : Dev nD) (bd : Option 𝒱.V) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (k0_h5 : k0_cond5 i = 1#1) (X_arg12 : BufTy.Contents (Elt F) arg12.view.ty) (X_arg13 : BufTy.Contents (Elt F) arg13.view.ty) (X_arg16 : BufTy.Contents (Elt F) arg16.view.ty)  (init : Vec F S1x2048 .f32) (n : ℕ) (hn : n ≤ 128) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h5 X_arg12 X_arg13 X_arg16 init n = chain (fun k => step1 (arg12.view.read (Elt F) X_arg12) (arg13.view.read (Elt F) X_arg13) (rowOf (arg16.view.read (Elt F) X_arg16) k)) init n := by
  induction n with
  | zero => rfl
  | succ n ih =>
    have hs := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h5 X_arg12 X_arg13 X_arg16 init ⟨n, by rw [trips3]; omega⟩
    dsimp only at hs
    rw [ih (by omega), tripR3_eq] at hs
    exact hs

end Cert.KernelIdeal.Hand
-- ==== Proof.Run.lean ====
/-
  The kernel's body run once, over any seventeen buffers, at each of its three kinds of grid point: the first (layer 0
  on the first block), a middle one (both layers) and the last (layer 1 on the last block, then the result). What each
  leaves in the buffers it writes is the run's own find.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.WordCmp

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at the first grid point. -/
@[irreducible] def runA (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : (Scalar.cmpi .ne (Scalar.extui (Scalar.cmpi .eq (BitVec.ofNat 32 (i 0).val) 0#32)) 0#32 = 1#1)) (hc2 : ¬ (Scalar.cmpi .ne (Scalar.extui (Scalar.cmpi .sgt (BitVec.ofNat 32 (i 0).val) 0#32)) 0#32 = 1#1)) (hc3 : ¬ (k0_cond3 i = 1#1)) (hc4 : (k0_cond4 i = 1#1)) (hc5 : ¬ (k0_cond5 i = 1#1)) :
    { L : BufTy.Contents (Elt F) arg15.view.ty × BufTy.Contents (Elt F) arg17.view.ty //
      ∀ (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} L.1) ∗ (arg16.view.loc (c : Thread nD τ) ↦[arg16.view.set]{fullShare} X16) ∗ (arg17.view.loc (c : Thread nD τ) ↦[arg17.view.set]{fullShare} L.2)) -∗ K ⟨⟩))
          ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun K => ?run⟩
  case run =>
    simp only [cc0__rnn_body_eq_skeleton]; unfold cc0__rnn_body_skel
    iintro ⟨H1, H2, H3, H4, H5, H6, H7, H8, H9, H10, H11, H12, H13, H14, H15, H16, H17, Hk⟩
    sl_exec
    sl_step
    iapply Hk
    sl_close

/-- The body at a middle grid point. -/
@[irreducible] def runB (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : (k0_cond3 i = 1#1)) (hc4 : ¬ (k0_cond4 i = 1#1)) (hc5 : ¬ (k0_cond5 i = 1#1)) :
    { L : BufTy.Contents (Elt F) arg15.view.ty × BufTy.Contents (Elt F) arg16.view.ty × BufTy.Contents (Elt F) arg17.view.ty //
      ∀ (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} L.1) ∗ (arg16.view.loc (c : Thread nD τ) ↦[arg16.view.set]{fullShare} L.2.1) ∗ (arg17.view.loc (c : Thread nD τ) ↦[arg17.view.set]{fullShare} L.2.2)) -∗ K ⟨⟩))
          ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_), fun K => ?run⟩
  case run =>
    simp only [cc0__rnn_body_eq_skeleton]; unfold cc0__rnn_body_skel
    iintro ⟨H1, H2, H3, H4, H5, H6, H7, H8, H9, H10, H11, H12, H13, H14, H15, H16, H17, Hk⟩
    sl_exec
    sl_step
    iapply Hk
    sl_close

/-- The body at the last grid point. -/
@[irreducible] def runC (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : ¬ (k0_cond3 i = 1#1)) (hc4 : ¬ (k0_cond4 i = 1#1)) (hc5 : (k0_cond5 i = 1#1)) :
    { L : BufTy.Contents (Elt F) arg16.view.ty × BufTy.Contents (Elt F) arg17.view.ty × BufTy.Contents (Elt F) arg14.view.ty //
      ∀ (K : PUnit → sProp 𝕄),
        iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
          ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} L.2.2) ∗ (arg15.view.loc (c : Thread nD τ) ↦[arg15.view.set]{fullShare} X15) ∗ (arg16.view.loc (c : Thread nD τ) ↦[arg16.view.set]{fullShare} L.1) ∗ (arg17.view.loc (c : Thread nD τ) ↦[arg17.view.set]{fullShare} L.2.1)) -∗ K ⟨⟩))
          ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_), fun K => ?run⟩
  case run =>
    simp only [cc0__rnn_body_eq_skeleton]; unfold cc0__rnn_body_skel
    iintro ⟨H1, H2, H3, H4, H5, H6, H7, H8, H9, H10, H11, H12, H13, H14, H15, H16, H17, Hk⟩
    sl_exec
    sl_step
    iapply Hk
    sl_close

end Cert.KernelIdeal.Hand
-- ==== Proof.Vals.lean ====
/-
  What the body leaves at each kind of grid point, by value: the block of states, the carried rows and the result, as
  the plain recursions over the time steps applied to what the buffers held.
-/
module

public import proofs.«01_k».proof.Proof.Loops
public import proofs.«01_k».proof.Proof.Run

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

/-- A one-row load of the carry is that row. -/
theorem readAt_carry (v : View sig .tc .vmem S2x2048 .f32) (X : v.ty.Contents (Elt F)) (k : Fin 2)
    {off : Fin 2 → ℕ} (inb : ∀ a, off a + S1x2048.size a ≤ S2x2048.size a) (h : off = ![k.val, 0]) :
    v.readAt (Elt F) (Rect.unit (s := S2x2048) off S1x2048.size inb).toLoadRect X = carryRow (v.read (Elt F) X) k := by
  subst h
  funext j
  refine congrArg (v.read (Elt F) X) (funext fun a => Fin.ext ?_)
  match a with
  | ⟨0, _⟩ =>
    have h0 : (j 0).val < 1 := (j 0).isLt
    show k.val + 1 * (j 0).val = k.val
    omega
  | ⟨1, _⟩ => show 0 + 1 * (j 1).val = (j 1).val; omega

/-- Loading row 0 of the carry. -/
theorem readAt_carry0 (v : View sig .tc .vmem S2x2048 .f32) (X : v.ty.Contents (Elt F))
    (inb : ∀ a, (![0, 0] : Fin 2 → ℕ) a + S1x2048.size a ≤ S2x2048.size a) :
    v.readAt (Elt F) (Rect.unit (s := S2x2048) ![0, 0] S1x2048.size inb).toLoadRect X = carryRow (v.read (Elt F) X) 0 :=
  readAt_carry v X 0 inb rfl

/-- Loading row 1 of the carry. -/
theorem readAt_carry1 (v : View sig .tc .vmem S2x2048 .f32) (X : v.ty.Contents (Elt F))
    (inb : ∀ a, (![1, 0] : Fin 2 → ℕ) a + S1x2048.size a ≤ S2x2048.size a) :
    v.readAt (Elt F) (Rect.unit (s := S2x2048) ![1, 0] S1x2048.size inb).toLoadRect X = carryRow (v.read (Elt F) X) 1 :=
  readAt_carry v X 1 inb rfl

/-- Writing row `k` of the carry, read at an index. -/
theorem read_write_carry (v : View sig .tc .vmem S2x2048 .f32) (f : v.ty.Contents (Elt F)) (k : ℕ)
    {off : Fin 2 → ℕ} (inb : ∀ a, off a + S1x2048.size a ≤ S2x2048.size a) (h : off = ![k, 0])
    (w : Vec F S1x2048 .f32) (L : List (View.Piece (Elt F) S2x2048 .f32)) (y : S2x2048.Idx) :
    v.read (Elt F) (v.writes (Elt F) f (⟨Rect.unit (s := S2x2048) off S1x2048.size inb, w⟩ :: L)) y
      = if (y 0).val = k then w (ix2 (0 : Fin 1) (y 1)) else v.read (Elt F) (v.writes (Elt F) f L) y := by
  by_cases hy : (y 0).val = k
  · rw [if_pos hy]
    exact View.read_writes_cons_unit_of_mem v f inb w L y (ix2 (0 : Fin 1) (y 1)) h
      (fun a => match a with
        | ⟨0, _⟩ => hy.trans (Nat.add_zero k).symm
        | ⟨1, _⟩ => (Nat.zero_add _).symm)
  · rw [if_neg hy]
    exact View.read_writes_cons_unit_of_not_mem v f inb w L y h 0 (by
      show (y 0).val < k ∨ k + 1 ≤ (y 0).val
      omega)

/-- Row 0 of the carry written: the new row over the old second row. -/
theorem read_write_carry0 (v : View sig .tc .vmem S2x2048 .f32) (f : v.ty.Contents (Elt F))
    (inb : ∀ a, (![0, 0] : Fin 2 → ℕ) a + S1x2048.size a ≤ S2x2048.size a)
    (w : Vec F S1x2048 .f32) (L : List (View.Piece (Elt F) S2x2048 .f32)) :
    v.read (Elt F) (v.writes (Elt F) f (⟨Rect.unit (s := S2x2048) ![0, 0] S1x2048.size inb, w⟩ :: L))
      = carryOf w (carryRow (v.read (Elt F) (v.writes (Elt F) f L)) 1) := by
  funext y
  rw [read_write_carry v f 0 inb rfl]
  by_cases h : (y 0).val = 0
  · rw [if_pos h]; exact (if_pos h).symm
  · have h2 : (y 0).val < 2 := (y 0).isLt
    rw [if_neg h]
    unfold carryOf
    rw [if_neg h]
    exact congrArg (v.read (Elt F) (v.writes (Elt F) f L)) (funext fun t => Fin.ext (match t with
      | ⟨0, _⟩ => by show (y 0).val = 1; omega
      | ⟨1, _⟩ => rfl))

/-- Row 1 of the carry written: the old first row over the new row. -/
theorem read_write_carry1 (v : View sig .tc .vmem S2x2048 .f32) (f : v.ty.Contents (Elt F))
    (inb : ∀ a, (![1, 0] : Fin 2 → ℕ) a + S1x2048.size a ≤ S2x2048.size a)
    (w : Vec F S1x2048 .f32) (L : List (View.Piece (Elt F) S2x2048 .f32)) :
    v.read (Elt F) (v.writes (Elt F) f (⟨Rect.unit (s := S2x2048) ![1, 0] S1x2048.size inb, w⟩ :: L))
      = carryOf (carryRow (v.read (Elt F) (v.writes (Elt F) f L)) 0) w := by
  funext y
  rw [read_write_carry v f 1 inb rfl]
  by_cases h : (y 0).val = 0
  · rw [if_neg (by omega)]
    unfold carryOf
    rw [if_pos h]
    exact congrArg (v.read (Elt F) (v.writes (Elt F) f L)) (funext fun t => Fin.ext (match t with
      | ⟨0, _⟩ => h
      | ⟨1, _⟩ => rfl))
  · have h2 : (y 0).val < 2 := (y 0).isLt
    rw [if_pos (by omega)]
    exact (if_neg h).symm

/-- Row 0 of a carry made of two rows. -/
theorem carryRow_carryOf0 (a b : Vec F S1x2048 .f32) : carryRow (carryOf a b) 0 = a := by
  funext j
  exact congrArg a (funext fun t => Fin.ext (match t with
    | ⟨0, _⟩ => by have h0 : (j 0).val < 1 := (j 0).isLt; show 0 = (j 0).val; omega
    | ⟨1, _⟩ => rfl))

/-- Row 1 of a carry made of two rows. -/
theorem carryRow_carryOf1 (a b : Vec F S1x2048 .f32) : carryRow (carryOf a b) 1 = b := by
  funext j
  exact congrArg b (funext fun t => Fin.ext (match t with
    | ⟨0, _⟩ => by have h0 : (j 0).val < 1 := (j 0).isLt; show 0 = (j 0).val; omega
    | ⟨1, _⟩ => rfl))

/-- A carry is made of its two rows. -/
theorem carry_eta (M : Vec F S2x2048 .f32) : carryOf (carryRow M 0) (carryRow M 1) = M := by
  funext y
  have h2 : (y 0).val < 2 := (y 0).isLt
  by_cases h : (y 0).val = 0
  · exact (if_pos h).trans (congrArg M (funext fun t => Fin.ext (match t with | ⟨0, _⟩ => h.symm | ⟨1, _⟩ => rfl)))
  · exact (if_neg h).trans (congrArg M (funext fun t => Fin.ext (match t with
      | ⟨0, _⟩ => by show 1 = (y 0).val; omega
      | ⟨1, _⟩ => rfl)))

/-- A loop from 0 by ones to 128 makes 128 trips. -/
theorem tripsLit : Scf.trips 0#32 (Scalar.addi 0#32 128#32) 1#32 = 128 := by decide +kernel

/-- The first grid point's layer 0 starts on the first initial state. -/
theorem runA_init (arg2 arg17 : Memref sig .tc .vmem S2x2048 .f32) (X2 : BufTy.Contents (Elt F) arg2.view.ty) :
    runA.sl.v25 (F := F) arg2 arg17 X2 = carryRow (arg2.view.read (Elt F) X2) 0 := by
  unfold runA.sl.v25 runA.sl.H17_1
  refine (readAt_carry arg17.view _ 0 _ rfl).trans ?_
  rw [View.read_writes_full, View.readAt_full arg2.view X2 inb_S2x2048_S2x2048_0_0]
  unfold k0_pay1
  simp only [shapeCast_self]

/-- What the first grid point leaves: the first chunk of states of layer 0, and the carry after it. -/
theorem runA_val (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : (Scalar.cmpi .ne (Scalar.extui (Scalar.cmpi .eq (BitVec.ofNat 32 (i 0).val) 0#32)) 0#32 = 1#1)) (hc2 : ¬ (Scalar.cmpi .ne (Scalar.extui (Scalar.cmpi .sgt (BitVec.ofNat 32 (i 0).val) 0#32)) 0#32 = 1#1)) (hc3 : ¬ (k0_cond3 i = 1#1)) (hc4 : (k0_cond4 i = 1#1)) (hc5 : ¬ (k0_cond5 i = 1#1)) :
    arg15.view.read (Elt F) (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.1 = statesOf (chain (fun k => step0 (arg3.view.read (Elt F) X3) (arg4.view.read (Elt F) X4) (arg5.view.read (Elt F) X5) (arg6.view.read (Elt F) X6) (arg7.view.read (Elt F) X7) (xAt (arg1.view.read (Elt F) X1) (128 * (i 0).val + k))) (carryRow (arg2.view.read (Elt F) X2) 0))
      ∧ arg17.view.read (Elt F) (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.2 = carryOf (chain (fun k => step0 (arg3.view.read (Elt F) X3) (arg4.view.read (Elt F) X4) (arg5.view.read (Elt F) X5) (arg6.view.read (Elt F) X6) (arg7.view.read (Elt F) X7) (xAt (arg1.view.read (Elt F) X1) (128 * (i 0).val + k))) (carryRow (arg2.view.read (Elt F) X2) 0) 128) (carryRow (arg2.view.read (Elt F) X2) 1) := by
  have e3 := View.readAt_full arg3.view X3 inb_S1x2048_S1x2048_0_0
  have e4 := View.readAt_full arg4.view X4 inb_S1x2048_S1x2048_0_0
  have e5 := View.readAt_full arg5.view X5 inb_S1x2048_S1x2048_0_0
  unfold runA
  dsimp only
  rw [runA_init, tripsLit, e3, e4, e5]
  have hst := st2_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg3.view.read (Elt F) X3) (arg4.view.read (Elt F) X4) (arg5.view.read (Elt F) X5) hc4 X1 X6 X7 (carryRow (arg2.view.read (Elt F) X2) 0) 128 le_rfl
  refine ⟨funext fun y => (hst.2 X15 y).trans (if_pos (y 0).isLt), ?_⟩
  rw [hst.1, read_write_carry0]
  unfold k0_pay10 runA.sl.H17_1 k0_pay1
  rw [View.read_writes_full, View.readAt_full arg2.view X2 inb_S2x2048_S2x2048_0_0]
  simp only [shapeCast_self]

/-- The pre-activations the body leaves for the loop's reads. -/
theorem runB_xp (arg8 : Memref sig .tc .vmem S2048x2048 .bf16) (arg9 : Memref sig .tc .vmem S2048x2048 .fp8e4m3) (arg10 arg11 : Memref sig .tc .vmem S1x2048 .f32)
    (arg15 arg16 : Memref sig .tc .vmem S128x2048 .f32) (X8 : BufTy.Contents (Elt F) arg8.view.ty) (X9 : BufTy.Contents (Elt F) arg9.view.ty)
    (X10 : BufTy.Contents (Elt F) arg10.view.ty) (X11 : BufTy.Contents (Elt F) arg11.view.ty) (X15 : BufTy.Contents (Elt F) arg15.view.ty)
    (f : BufTy.Contents (Elt F) arg16.view.ty) :
    arg16.view.read (Elt F) (arg16.view.writes (Elt F) f (runB.sl.H16_3 (F := F) arg8 arg9 arg10 arg11 arg15 arg16 X8 X9 X10 X11 X15)) = (preact (arg8.view.read (Elt F) X8) (arg9.view.read (Elt F) X9) (arg10.view.read (Elt F) X10) (arg11.view.read (Elt F) X11) (arg15.view.read (Elt F) X15)) := by
  unfold runB.sl.H16_3
  rw [View.read_writes_full]
  have e8 := View.readAt_full arg8.view X8 inb_S2048x2048_S2048x2048_0_0
  have e9 := View.readAt_full arg9.view X9 inb_S2048x2048_S2048x2048_0_0
  have e10 := View.readAt_full arg10.view X10 inb_S1x2048_S1x2048_0_0
  have e11 := View.readAt_full arg11.view X11 inb_S1x2048_S1x2048_0_0
  have e15 := View.readAt_full arg15.view X15 inb_S128x2048_S128x2048_0_0
  have ec := fun (w : Vec F S128x2048 .f32) (L : List (View.Piece (Elt F) S128x2048 .f32)) =>
    View.readCov_full arg16.view inb_S128x2048_S128x2048_0_0 inb_S128x2048_S128x2048_0_0 w L
  unfold runB.sl.v52 runB.sl.r runB.sl.H16_2 preact
  rw [ec]
  unfold runB.sl.v44 runB.sl.H16_1
  rw [ec, e8, e9, e10, e11, e15]

/-- What a grid point between the first and the last leaves: the next chunk of states of layer 0, and the carry after both layers. -/
theorem runB_val (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : (k0_cond3 i = 1#1)) (hc4 : ¬ (k0_cond4 i = 1#1)) (hc5 : ¬ (k0_cond5 i = 1#1)) :
    arg15.view.read (Elt F) (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.1 = statesOf (chain (fun k => step0 (arg3.view.read (Elt F) X3) (arg4.view.read (Elt F) X4) (arg5.view.read (Elt F) X5) (arg6.view.read (Elt F) X6) (arg7.view.read (Elt F) X7) (xAt (arg1.view.read (Elt F) X1) (128 * (i 0).val + k))) (carryRow (arg17.view.read (Elt F) X17) 0))
      ∧ arg17.view.read (Elt F) (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.2.2
        = carryOf (chain (fun k => step0 (arg3.view.read (Elt F) X3) (arg4.view.read (Elt F) X4) (arg5.view.read (Elt F) X5) (arg6.view.read (Elt F) X6) (arg7.view.read (Elt F) X7) (xAt (arg1.view.read (Elt F) X1) (128 * (i 0).val + k))) (carryRow (arg17.view.read (Elt F) X17) 0) 128) (chain (fun k => step1 (arg12.view.read (Elt F) X12) (arg13.view.read (Elt F) X13) (rowOf (preact (arg8.view.read (Elt F) X8) (arg9.view.read (Elt F) X9) (arg10.view.read (Elt F) X10) (arg11.view.read (Elt F) X11) (arg15.view.read (Elt F) X15)) k)) (carryRow (arg17.view.read (Elt F) X17) 1) 128) := by
  have e3 := View.readAt_full arg3.view X3 inb_S1x2048_S1x2048_0_0
  have e4 := View.readAt_full arg4.view X4 inb_S1x2048_S1x2048_0_0
  have e5 := View.readAt_full arg5.view X5 inb_S1x2048_S1x2048_0_0
  unfold runB
  dsimp only
  rw [tripsLit, e3, e4, e5, readAt_carry0 arg17.view X17, readAt_carry1 arg17.view X17]
  have hst := st1_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (runB.sl.v3 i) (arg3.view.read (Elt F) X3) (arg4.view.read (Elt F) X4) (arg5.view.read (Elt F) X5) hc3 X1 X6 X7 X12 X13
    (arg16.view.writes (Elt F) arg16.view.junk (runB.sl.H16_3 arg8 arg9 arg10 arg11 arg15 arg16 X8 X9 X10 X11 X15))
    (carryRow (arg17.view.read (Elt F) X17) 0, carryRow (arg17.view.read (Elt F) X17) 1) 128 le_rfl
  rw [runB_xp] at hst
  refine ⟨funext fun y => (hst.2 X15 y).trans (if_pos (y 0).isLt), ?_⟩
  refine (read_write_carry1 arg17.view X17 _ _ _).trans (congrArg₂ carryOf ?_ ?_)
  · refine (congrArg (fun M => carryRow M 0) (read_write_carry0 arg17.view X17 _ _ _)).trans ((carryRow_carryOf0 _ _).trans ?_)
    unfold k0_pay6
    exact (shapeCast_self _ _).trans (congrArg Prod.fst hst.1)
  · unfold k0_pay7
    exact (shapeCast_self _ _).trans (congrArg Prod.snd hst.1)

/-- The pre-activations the body leaves for the loop's reads. -/
theorem runC_xp (arg8 : Memref sig .tc .vmem S2048x2048 .bf16) (arg9 : Memref sig .tc .vmem S2048x2048 .fp8e4m3) (arg10 arg11 : Memref sig .tc .vmem S1x2048 .f32)
    (arg15 arg16 : Memref sig .tc .vmem S128x2048 .f32) (X8 : BufTy.Contents (Elt F) arg8.view.ty) (X9 : BufTy.Contents (Elt F) arg9.view.ty)
    (X10 : BufTy.Contents (Elt F) arg10.view.ty) (X11 : BufTy.Contents (Elt F) arg11.view.ty) (X15 : BufTy.Contents (Elt F) arg15.view.ty)
    (f : BufTy.Contents (Elt F) arg16.view.ty) :
    arg16.view.read (Elt F) (arg16.view.writes (Elt F) f (runC.sl.H16_3 (F := F) arg8 arg9 arg10 arg11 arg15 arg16 X8 X9 X10 X11 X15)) = (preact (arg8.view.read (Elt F) X8) (arg9.view.read (Elt F) X9) (arg10.view.read (Elt F) X10) (arg11.view.read (Elt F) X11) (arg15.view.read (Elt F) X15)) := by
  unfold runC.sl.H16_3
  rw [View.read_writes_full]
  have e8 := View.readAt_full arg8.view X8 inb_S2048x2048_S2048x2048_0_0
  have e9 := View.readAt_full arg9.view X9 inb_S2048x2048_S2048x2048_0_0
  have e10 := View.readAt_full arg10.view X10 inb_S1x2048_S1x2048_0_0
  have e11 := View.readAt_full arg11.view X11 inb_S1x2048_S1x2048_0_0
  have e15 := View.readAt_full arg15.view X15 inb_S128x2048_S128x2048_0_0
  have ec := fun (w : Vec F S128x2048 .f32) (L : List (View.Piece (Elt F) S128x2048 .f32)) =>
    View.readCov_full arg16.view inb_S128x2048_S128x2048_0_0 inb_S128x2048_S128x2048_0_0 w L
  unfold runC.sl.v52 runC.sl.r runC.sl.H16_2 preact
  rw [ec]
  unfold runC.sl.v44 runC.sl.H16_1
  rw [ec, e8, e9, e10, e11, e15]

/-- What the last grid point leaves: the carry after the last chunk of layer 1, also in the output. -/
theorem runC_val (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : ¬ (k0_cond3 i = 1#1)) (hc4 : ¬ (k0_cond4 i = 1#1)) (hc5 : (k0_cond5 i = 1#1)) :
    arg14.view.read (Elt F) (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.2.2 = carryOf (carryRow (arg17.view.read (Elt F) X17) 0) (chain (fun k => step1 (arg12.view.read (Elt F) X12) (arg13.view.read (Elt F) X13) (rowOf (preact (arg8.view.read (Elt F) X8) (arg9.view.read (Elt F) X9) (arg10.view.read (Elt F) X10) (arg11.view.read (Elt F) X11) (arg15.view.read (Elt F) X15)) k)) (carryRow (arg17.view.read (Elt F) X17) 1) 128)
      ∧ arg17.view.read (Elt F) (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X1 X2 X3 X4 X5 X6 X7 X8 X9 X10 X11 X12 X13 X14 X15 X16 X17 hc1 hc2 hc3 hc4 hc5).1.2.1 = carryOf (carryRow (arg17.view.read (Elt F) X17) 0) (chain (fun k => step1 (arg12.view.read (Elt F) X12) (arg13.view.read (Elt F) X13) (rowOf (preact (arg8.view.read (Elt F) X8) (arg9.view.read (Elt F) X9) (arg10.view.read (Elt F) X10) (arg11.view.read (Elt F) X11) (arg15.view.read (Elt F) X15)) k)) (carryRow (arg17.view.read (Elt F) X17) 1) 128) := by
  have hst := st3_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc5 X12 X13
    (arg16.view.writes (Elt F) arg16.view.junk (runC.sl.H16_3 arg8 arg9 arg10 arg11 arg15 arg16 X8 X9 X10 X11 X15))
    (carryRow (arg17.view.read (Elt F) X17) 1) 128 le_rfl
  rw [runC_xp] at hst
  unfold runC
  dsimp only
  rw [View.read_writes_full, View.readAt_full]
  rw [and_self]
  unfold runC.sl.H17_1
  rw [readAt_carry1 arg17.view X17]
  rw [show Scf.trips k0_t3_loop.lb k0_t3_loop.ub k0_t3_loop.st = 128 from tripsLit, hst, read_write_carry1]
  unfold k0_pay12
  simp only [shapeCast_self]
  rfl

end Cert.KernelIdeal.Hand
-- ==== Proof.Tri.lean ====
/-
  The body at each kind of grid point as one triple over whole buffers read by value: what it is handed, and what it
  leaves in the block of states, the pre-activations, the carried rows and the result.
-/
module

public import proofs.«01_k».proof.Proof.Vals

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix2 eq_ix2)

/-- The body at the first point. -/
theorem triA (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (D1 : Vec F S1x8192 .f32) (D2 : Vec F S2x2048 .f32) (D3 : Vec F S1x2048 .f32) (D4 : Vec F S1x2048 .f32) (D5 : Vec F S1x2048 .f32) (D6 : Vec F S2048x2048 .bf16) (D7 : Vec F S2048x2048 .fp8e4m3) (D8 : Vec F S2048x2048 .bf16) (D9 : Vec F S2048x2048 .fp8e4m3) (D10 : Vec F S1x2048 .f32) (D11 : Vec F S1x2048 .f32) (D12 : Vec F S2048x2048 .bf16) (D13 : Vec F S2048x2048 .fp8e4m3) (D14 : Vec F S2x2048 .f32) (D15 : Vec F S128x2048 .f32) (D16 : Vec F S128x2048 .f32) (D17 : Vec F S2x2048 .f32)
    (hc1 : (Scalar.cmpi .ne (Scalar.extui (Scalar.cmpi .eq (BitVec.ofNat 32 (i 0).val) 0#32)) 0#32 = 1#1)) (hc2 : ¬ (Scalar.cmpi .ne (Scalar.extui (Scalar.cmpi .sgt (BitVec.ofNat 32 (i 0).val) 0#32)) 0#32 = 1#1)) (hc3 : ¬ (k0_cond3 i = 1#1)) (hc4 : (k0_cond4 i = 1#1)) (hc5 : ¬ (k0_cond5 i = 1#1))
    (K : PUnit → sProp 𝕄) :
    iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare D14 ∗ owns (c : Thread nD τ) arg15 fullShare D15 ∗ owns (c : Thread nD τ) arg16 fullShare D16 ∗ owns (c : Thread nD τ) arg17 fullShare D17
      ∗ (iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare D14 ∗ owns (c : Thread nD τ) arg15 fullShare (statesOf (chain (fun k => step0 D3 D4 D5 D6 D7 (xAt D1 (128 * (i 0).val + k))) (carryRow D2 0))) ∗ owns (c : Thread nD τ) arg16 fullShare D16 ∗ owns (c : Thread nD τ) arg17 fullShare (carryOf (chain (fun k => step0 D3 D4 D5 D6 D7 (xAt D1 (128 * (i 0).val + k))) (carryRow D2 0) 128) (carryRow D2 1))) -∗ K ⟨⟩))
      ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, Hk⟩
  subst h1 h2 h3 h4 h5 h6 h7 h8 h9 h10 h11 h12 h13 h14 h15 h16 h17
  iapply ((runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact (runA_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).1
  isplitl [H16]
  · iexists _; isplitr; swap; · iexact H16
    ipureintro; exact rfl
  iexists _; isplitr; swap; · iexact H17
  ipureintro; exact (runA_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2

/-- The body at a point strictly between the first and the last. -/
theorem triB (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (D1 : Vec F S1x8192 .f32) (D2 : Vec F S2x2048 .f32) (D3 : Vec F S1x2048 .f32) (D4 : Vec F S1x2048 .f32) (D5 : Vec F S1x2048 .f32) (D6 : Vec F S2048x2048 .bf16) (D7 : Vec F S2048x2048 .fp8e4m3) (D8 : Vec F S2048x2048 .bf16) (D9 : Vec F S2048x2048 .fp8e4m3) (D10 : Vec F S1x2048 .f32) (D11 : Vec F S1x2048 .f32) (D12 : Vec F S2048x2048 .bf16) (D13 : Vec F S2048x2048 .fp8e4m3) (D14 : Vec F S2x2048 .f32) (D15 : Vec F S128x2048 .f32) (D16 : Vec F S128x2048 .f32) (D17 : Vec F S2x2048 .f32)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : (k0_cond3 i = 1#1)) (hc4 : ¬ (k0_cond4 i = 1#1)) (hc5 : ¬ (k0_cond5 i = 1#1))
    (K : PUnit → sProp 𝕄) :
    iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare D14 ∗ owns (c : Thread nD τ) arg15 fullShare D15 ∗ owns (c : Thread nD τ) arg16 fullShare D16 ∗ owns (c : Thread nD τ) arg17 fullShare D17
      ∗ (iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare D14 ∗ owns (c : Thread nD τ) arg15 fullShare (statesOf (chain (fun k => step0 D3 D4 D5 D6 D7 (xAt D1 (128 * (i 0).val + k))) (carryRow D17 0))) ∗ (∃ D, owns (c : Thread nD τ) arg16 fullShare D) ∗ owns (c : Thread nD τ) arg17 fullShare (carryOf (chain (fun k => step0 D3 D4 D5 D6 D7 (xAt D1 (128 * (i 0).val + k))) (carryRow D17 0) 128) (chain (fun k => step1 D12 D13 (rowOf (preact D8 D9 D10 D11 D15) k)) (carryRow D17 1) 128))) -∗ K ⟨⟩))
      ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, Hk⟩
  subst h1 h2 h3 h4 h5 h6 h7 h8 h9 h10 h11 h12 h13 h14 h15 h16 h17
  iapply ((runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact rfl
  isplitl [H15]
  · iexists _; isplitr; swap; · iexact H15
    ipureintro; exact (runB_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).1
  isplitl [H16]
  · iexists _; iexists _; isplitr; swap; · iexact H16
    ipureintro; exact rfl
  iexists _; isplitr; swap; · iexact H17
  ipureintro; exact (runB_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2

/-- The body at the last point. -/
theorem triC (c : Dev nD) (i : grid0.Coords) (arg1 : Memref sig .tc .smem S1x8192 .f32) (harg1 : arg1.IsWhole) (arg2 : Memref sig .tc .vmem S2x2048 .f32) (harg2 : arg2.IsWhole) (arg3 : Memref sig .tc .vmem S1x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S2048x2048 .bf16) (harg6 : arg6.IsWhole) (arg7 : Memref sig .tc .vmem S2048x2048 .fp8e4m3) (harg7 : arg7.IsWhole) (arg8 : Memref sig .tc .vmem S2048x2048 .bf16) (harg8 : arg8.IsWhole) (arg9 : Memref sig .tc .vmem S2048x2048 .fp8e4m3) (harg9 : arg9.IsWhole) (arg10 : Memref sig .tc .vmem S1x2048 .f32) (harg10 : arg10.IsWhole) (arg11 : Memref sig .tc .vmem S1x2048 .f32) (harg11 : arg11.IsWhole) (arg12 : Memref sig .tc .vmem S2048x2048 .bf16) (harg12 : arg12.IsWhole) (arg13 : Memref sig .tc .vmem S2048x2048 .fp8e4m3) (harg13 : arg13.IsWhole) (arg14 : Memref sig .tc .vmem S2x2048 .f32) (harg14 : arg14.IsWhole) (arg15 : Memref sig .tc .vmem S128x2048 .f32) (harg15 : arg15.IsWhole) (arg16 : Memref sig .tc .vmem S128x2048 .f32) (harg16 : arg16.IsWhole) (arg17 : Memref sig .tc .vmem S2x2048 .f32) (harg17 : arg17.IsWhole) (D1 : Vec F S1x8192 .f32) (D2 : Vec F S2x2048 .f32) (D3 : Vec F S1x2048 .f32) (D4 : Vec F S1x2048 .f32) (D5 : Vec F S1x2048 .f32) (D6 : Vec F S2048x2048 .bf16) (D7 : Vec F S2048x2048 .fp8e4m3) (D8 : Vec F S2048x2048 .bf16) (D9 : Vec F S2048x2048 .fp8e4m3) (D10 : Vec F S1x2048 .f32) (D11 : Vec F S1x2048 .f32) (D12 : Vec F S2048x2048 .bf16) (D13 : Vec F S2048x2048 .fp8e4m3) (D14 : Vec F S2x2048 .f32) (D15 : Vec F S128x2048 .f32) (D16 : Vec F S128x2048 .f32) (D17 : Vec F S2x2048 .f32)
    (hc1 : ¬ (Scalar.cmpi .ne (Scalar.extui (Scalar.cmpi .eq (BitVec.ofNat 32 (i 0).val) 0#32)) 0#32 = 1#1)) (hc2 : (Scalar.cmpi .ne (Scalar.extui (Scalar.cmpi .sgt (BitVec.ofNat 32 (i 0).val) 0#32)) 0#32 = 1#1)) (hc3 : ¬ (k0_cond3 i = 1#1)) (hc4 : ¬ (k0_cond4 i = 1#1)) (hc5 : (k0_cond5 i = 1#1))
    (K : PUnit → sProp 𝕄) :
    iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare D14 ∗ owns (c : Thread nD τ) arg15 fullShare D15 ∗ owns (c : Thread nD τ) arg16 fullShare D16 ∗ owns (c : Thread nD τ) arg17 fullShare D17
      ∗ (iprop(owns (c : Thread nD τ) arg1 fullShare D1 ∗ owns (c : Thread nD τ) arg2 fullShare D2 ∗ owns (c : Thread nD τ) arg3 fullShare D3 ∗ owns (c : Thread nD τ) arg4 fullShare D4 ∗ owns (c : Thread nD τ) arg5 fullShare D5 ∗ owns (c : Thread nD τ) arg6 fullShare D6 ∗ owns (c : Thread nD τ) arg7 fullShare D7 ∗ owns (c : Thread nD τ) arg8 fullShare D8 ∗ owns (c : Thread nD τ) arg9 fullShare D9 ∗ owns (c : Thread nD τ) arg10 fullShare D10 ∗ owns (c : Thread nD τ) arg11 fullShare D11 ∗ owns (c : Thread nD τ) arg12 fullShare D12 ∗ owns (c : Thread nD τ) arg13 fullShare D13 ∗ owns (c : Thread nD τ) arg14 fullShare (carryOf (carryRow D17 0) (chain (fun k => step1 D12 D13 (rowOf (preact D8 D9 D10 D11 D15) k)) (carryRow D17 1) 128)) ∗ owns (c : Thread nD τ) arg15 fullShare D15 ∗ (∃ D, owns (c : Thread nD τ) arg16 fullShare D) ∗ owns (c : Thread nD τ) arg17 fullShare (carryOf (carryRow D17 0) (chain (fun k => step1 D12 D13 (rowOf (preact D8 D9 D10 D11 D15) k)) (carryRow D17 1) 128))) -∗ K ⟨⟩))
      ⊢ wp frame (wpE (defs₀ (F := F)) Variants.none c none) Set.univ (cc0__rnn_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, Hk⟩
  subst h1 h2 h3 h4 h5 h6 h7 h8 h9 h10 h11 h12 h13 h14 h15 h16 h17
  iapply ((runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  iapply Hk
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact rfl
  isplitl [H14]
  · iexists _; isplitr; swap; · iexact H14
    ipureintro; exact (runC_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).1
  isplitl [H15]
  · iexists _; isplitr; swap; · iexact H15
    ipureintro; exact rfl
  isplitl [H16]
  · iexists _; iexists _; isplitr; swap; · iexact H16
    ipureintro; exact rfl
  iexists _; isplitr; swap; · iexact H17
  ipureintro; exact (runC_val (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 f1 f2 f3 f4 f5 f6 f7 f8 f9 f10 f11 f12 f13 f14 f15 f16 f17 hc1 hc2 hc3 hc4 hc5).2

end Cert.KernelIdeal.Hand
-- ==== Proof.Track.lean ====
/-
  The whole run of the kernel's program: the state the scratch buffers carry from grid point to grid point as plain
  recursions over the time steps, the body at every point, and the run with the argument arrays unchanged, every
  counter zero and the result array at the two last states.
-/
module

public import proofs.«01_k».proof.Proof.Tri
public import proofs.«01_k».proof.Proof.Gen.KernelIdeal.Frame
public import Idealize.ShloMosaic.Lib.Pipeline.Value

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pure

variable (x : Vec F S1x8192 .f32) (h : Vec F S2x2048 .f32) (w b b' : Vec F S1x2048 .f32) (hi : Vec F S2048x2048 .bf16) (lo : Vec F S2048x2048 .fp8e4m3)
  (hx : Vec F S2048x2048 .bf16) (lx : Vec F S2048x2048 .fp8e4m3) (c c' : Vec F S1x2048 .f32) (hi' : Vec F S2048x2048 .bf16) (lo' : Vec F S2048x2048 .fp8e4m3)

/-- The state of layer 0 before time step `n`. -/
def state0 (n : ℕ) : Vec F S1x2048 .f32 := chain (fun k => step0 w b b' hi lo (xAt x k)) (carryRow h 0) n

/-- The states of layer 0 after each time step of chunk `q`. -/
def states0 (q : ℕ) : Vec F S128x2048 .f32 := statesOf (fun k => state0 x h w b b' hi lo (128 * q + k))

/-- The state of layer 1 before time step `n`. -/
def state1 (n : ℕ) : Vec F S1x2048 .f32 :=
  chain (fun k => step1 hi' lo' (rowOf (preact hx lx c c' (states0 x h w b b' hi lo (k / 128))) (k % 128))) (carryRow h 1) n

/-- A chunk of layer 0 from the state before it. -/
theorem states0_eq (q : ℕ) :
    statesOf (chain (fun k => step0 w b b' hi lo (xAt x (128 * q + k))) (state0 x h w b b' hi lo (128 * q))) = states0 x h w b b' hi lo q :=
  congrArg statesOf (funext fun k => (chain_add (fun k => step0 w b b' hi lo (xAt x k)) (carryRow h 0) (128 * q) k).symm)

/-- Running a chunk of layer 0 from the state before it gives the state before the next chunk. -/
theorem state0_chunk (q : ℕ) :
    chain (fun k => step0 w b b' hi lo (xAt x (128 * q + k))) (state0 x h w b b' hi lo (128 * q)) 128 = state0 x h w b b' hi lo (128 * (q + 1)) :=
  (chain_add (fun k => step0 w b b' hi lo (xAt x k)) (carryRow h 0) (128 * q) 128).symm

/-- A chunk of layer 1 from the state before it. -/
theorem state1_chunk (q : ℕ) :
    chain (fun k => step1 hi' lo' (rowOf (preact hx lx c c' (states0 x h w b b' hi lo q)) k)) (state1 x h w b b' hi lo hx lx c c' hi' lo' (128 * q)) 128
      = state1 x h w b b' hi lo hx lx c c' hi' lo' (128 * (q + 1)) := by
  refine Eq.trans ?_ (chain_add (fun k => step1 hi' lo' (rowOf (preact hx lx c c' (states0 x h w b b' hi lo (k / 128))) (k % 128))) (carryRow h 1) (128 * q) 128).symm
  refine chain_congr _ _ _ 128 fun k hk => funext fun a => ?_
  rw [show (128 * q + k) / 128 = q by omega, show (128 * q + k) % 128 = k by omega]

end Pure

variable (m : (ℓ : Loc nD τ sig) → Buf (Elt F) ℓ) (ρ : Dev nD → PrngReg)

/-- The two recursions on what the region finds in the arrays. -/
abbrev T0 (c : Dev nD) (n : ℕ) : Vec F S1x2048 .f32 := state0 (V m c main_arg0) (V m c main_v21) (V m c main_v22) (V m c main_v23) (V m c main_v24) (V m c main_v1) (V m c main_v6) n
/-- The states of layer 0 after each time step of chunk `q`, from the arrays the kernel is launched on. -/
abbrev B0 (c : Dev nD) (q : ℕ) : Vec F S128x2048 .f32 := states0 (V m c main_arg0) (V m c main_v21) (V m c main_v22) (V m c main_v23) (V m c main_v24) (V m c main_v1) (V m c main_v6) q
/-- The state of layer 1 before time step `n`, from the arrays the kernel is launched on. -/
abbrev T1 (c : Dev nD) (n : ℕ) : Vec F S1x2048 .f32 := state1 (V m c main_arg0) (V m c main_v21) (V m c main_v22) (V m c main_v23) (V m c main_v24) (V m c main_v1) (V m c main_v6) (V m c main_v8) (V m c main_v13) (V m c main_v25) (V m c main_v26) (V m c main_v15) (V m c main_v20) n

/-- What the scratch buffers hold before grid point `n`. -/
def PhiN (c : Dev nD) : ℕ → sProp 𝕄
  | 0 => Pipeline.ΦA spec0 c
  | q + 1 => iprop((owns (c : Thread nD τ) (Memref.whole cc0_scratch0) fullShare (B0 m c (min q 63))
      ∗ (∃ D, owns (c : Thread nD τ) (Memref.whole cc0_scratch1) fullShare D)
      ∗ owns (c : Thread nD τ) (Memref.whole cc0_scratch2) fullShare (carryOf (T0 m c (128 * min (q + 1) 64)) (T1 m c (128 * q))))
      ∗ ∃ r, prngReg c r)

/-- Each window's block index is zero on every axis at every point. -/
theorem idx_zero0 : ∀ t : Fin cfg0.N, win0_0.index t (0 : Fin 2) = 0 ∧ win0_0.index t (1 : Fin 2) = 0 := (by decide +kernel : ∀ t : Fin grid0.N, _)
/-- Window 1 is at block (0, 0) at every grid point. -/
theorem idx_zero1 : ∀ t : Fin cfg0.N, win0_1.index t (0 : Fin 2) = 0 ∧ win0_1.index t (1 : Fin 2) = 0 := (by decide +kernel : ∀ t : Fin grid0.N, _)
/-- Window 2 is at block (0, 0) at every grid point. -/
theorem idx_zero2 : ∀ t : Fin cfg0.N, win0_2.index t (0 : Fin 2) = 0 ∧ win0_2.index t (1 : Fin 2) = 0 := (by decide +kernel : ∀ t : Fin grid0.N, _)
/-- Window 3 is at block (0, 0) at every grid point. -/
theorem idx_zero3 : ∀ t : Fin cfg0.N, win0_3.index t (0 : Fin 2) = 0 ∧ win0_3.index t (1 : Fin 2) = 0 := (by decide +kernel : ∀ t : Fin grid0.N, _)
/-- Window 4 is at block (0, 0) at every grid point. -/
theorem idx_zero4 : ∀ t : Fin cfg0.N, win0_4.index t (0 : Fin 2) = 0 ∧ win0_4.index t (1 : Fin 2) = 0 := (by decide +kernel : ∀ t : Fin grid0.N, _)
/-- Window 5 is at block (0, 0) at every grid point. -/
theorem idx_zero5 : ∀ t : Fin cfg0.N, win0_5.index t (0 : Fin 2) = 0 ∧ win0_5.index t (1 : Fin 2) = 0 := (by decide +kernel : ∀ t : Fin grid0.N, _)
/-- Window 6 is at block (0, 0) at every grid point. -/
theorem idx_zero6 : ∀ t : Fin cfg0.N, win0_6.index t (0 : Fin 2) = 0 ∧ win0_6.index t (1 : Fin 2) = 0 := (by decide +kernel : ∀ t : Fin grid0.N, _)
/-- Window 7 is at block (0, 0) at every grid point. -/
theorem idx_zero7 : ∀ t : Fin cfg0.N, win0_7.index t (0 : Fin 2) = 0 ∧ win0_7.index t (1 : Fin 2) = 0 := (by decide +kernel : ∀ t : Fin grid0.N, _)
/-- Window 8 is at block (0, 0) at every grid point. -/
theorem idx_zero8 : ∀ t : Fin cfg0.N, win0_8.index t (0 : Fin 2) = 0 ∧ win0_8.index t (1 : Fin 2) = 0 := (by decide +kernel : ∀ t : Fin grid0.N, _)
/-- Window 9 is at block (0, 0) at every grid point. -/
theorem idx_zero9 : ∀ t : Fin cfg0.N, win0_9.index t (0 : Fin 2) = 0 ∧ win0_9.index t (1 : Fin 2) = 0 := (by decide +kernel : ∀ t : Fin grid0.N, _)
/-- Window 10 is at block (0, 0) at every grid point. -/
theorem idx_zero10 : ∀ t : Fin cfg0.N, win0_10.index t (0 : Fin 2) = 0 ∧ win0_10.index t (1 : Fin 2) = 0 := (by decide +kernel : ∀ t : Fin grid0.N, _)
/-- Window 11 is at block (0, 0) at every grid point. -/
theorem idx_zero11 : ∀ t : Fin cfg0.N, win0_11.index t (0 : Fin 2) = 0 ∧ win0_11.index t (1 : Fin 2) = 0 := (by decide +kernel : ∀ t : Fin grid0.N, _)
/-- Window 12 is at block (0, 0) at every grid point. -/
theorem idx_zero12 : ∀ t : Fin cfg0.N, win0_12.index t (0 : Fin 2) = 0 ∧ win0_12.index t (1 : Fin 2) = 0 := (by decide +kernel : ∀ t : Fin grid0.N, _)
/-- Window 13 is at block (0, 0) at every grid point. -/
theorem idx_zero13 : ∀ t : Fin cfg0.N, win0_13.index t (0 : Fin 2) = 0 ∧ win0_13.index t (1 : Fin 2) = 0 := (by decide +kernel : ∀ t : Fin grid0.N, _)

/-- So an index of a window's block is the same index of its array. -/
theorem emb0 (t : Fin cfg0.N) (j : S1x8192.Idx) : ((cfg0.win 0).blk t).view.emb j = j := by
  obtain ⟨e0, e1⟩ := idx_zero0 t
  funext a; apply Fin.ext
  match a with
  | ⟨0, _⟩ => show win0_0.index t (0 : Fin 2) * 1 + 1 * (j 0).val = (j 0).val; omega
  | ⟨1, _⟩ => show win0_0.index t (1 : Fin 2) * 8192 + 1 * (j 1).val = (j 1).val; omega
/-- Window 1's block is its whole array: an index of the block is the same index of the array. -/
theorem emb1 (t : Fin cfg0.N) (j : S2x2048.Idx) : ((cfg0.win 1).blk t).view.emb j = j := by
  obtain ⟨e0, e1⟩ := idx_zero1 t
  funext a; apply Fin.ext
  match a with
  | ⟨0, _⟩ => show win0_1.index t (0 : Fin 2) * 2 + 1 * (j 0).val = (j 0).val; omega
  | ⟨1, _⟩ => show win0_1.index t (1 : Fin 2) * 2048 + 1 * (j 1).val = (j 1).val; omega
/-- Window 2's block is its whole array: an index of the block is the same index of the array. -/
theorem emb2 (t : Fin cfg0.N) (j : S1x2048.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 2048 + 1 * (j 1).val = (j 1).val; omega
/-- Window 3's block is its whole array: an index of the block is the same index of the array. -/
theorem emb3 (t : Fin cfg0.N) (j : S1x2048.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 2048 + 1 * (j 1).val = (j 1).val; omega
/-- Window 4's block is its whole array: an index of the block is the same index of the array. -/
theorem emb4 (t : Fin cfg0.N) (j : S1x2048.Idx) : ((cfg0.win 4).blk t).view.emb j = j := by
  obtain ⟨e0, e1⟩ := idx_zero4 t
  funext a; apply Fin.ext
  match a with
  | ⟨0, _⟩ => show win0_4.index t (0 : Fin 2) * 1 + 1 * (j 0).val = (j 0).val; omega
  | ⟨1, _⟩ => show win0_4.index t (1 : Fin 2) * 2048 + 1 * (j 1).val = (j 1).val; omega
/-- Window 5's block is its whole array: an index of the block is the same index of the array. -/
theorem emb5 (t : Fin cfg0.N) (j : S2048x2048.Idx) : ((cfg0.win 5).blk t).view.emb j = j := by
  obtain ⟨e0, e1⟩ := idx_zero5 t
  funext a; apply Fin.ext
  match a with
  | ⟨0, _⟩ => show win0_5.index t (0 : Fin 2) * 2048 + 1 * (j 0).val = (j 0).val; omega
  | ⟨1, _⟩ => show win0_5.index t (1 : Fin 2) * 2048 + 1 * (j 1).val = (j 1).val; omega
/-- Window 6's block is its whole array: an index of the block is the same index of the array. -/
theorem emb6 (t : Fin cfg0.N) (j : S2048x2048.Idx) : ((cfg0.win 6).blk t).view.emb j = j := by
  obtain ⟨e0, e1⟩ := idx_zero6 t
  funext a; apply Fin.ext
  match a with
  | ⟨0, _⟩ => show win0_6.index t (0 : Fin 2) * 2048 + 1 * (j 0).val = (j 0).val; omega
  | ⟨1, _⟩ => show win0_6.index t (1 : Fin 2) * 2048 + 1 * (j 1).val = (j 1).val; omega
/-- Window 7's block is its whole array: an index of the block is the same index of the array. -/
theorem emb7 (t : Fin cfg0.N) (j : S2048x2048.Idx) : ((cfg0.win 7).blk t).view.emb j = j := by
  obtain ⟨e0, e1⟩ := idx_zero7 t
  funext a; apply Fin.ext
  match a with
  | ⟨0, _⟩ => show win0_7.index t (0 : Fin 2) * 2048 + 1 * (j 0).val = (j 0).val; omega
  | ⟨1, _⟩ => show win0_7.index t (1 : Fin 2) * 2048 + 1 * (j 1).val = (j 1).val; omega
/-- Window 8's block is its whole array: an index of the block is the same index of the array. -/
theorem emb8 (t : Fin cfg0.N) (j : S2048x2048.Idx) : ((cfg0.win 8).blk t).view.emb j = j := by
  obtain ⟨e0, e1⟩ := idx_zero8 t
  funext a; apply Fin.ext
  match a with
  | ⟨0, _⟩ => show win0_8.index t (0 : Fin 2) * 2048 + 1 * (j 0).val = (j 0).val; omega
  | ⟨1, _⟩ => show win0_8.index t (1 : Fin 2) * 2048 + 1 * (j 1).val = (j 1).val; omega
/-- Window 9's block is its whole array: an index of the block is the same index of the array. -/
theorem emb9 (t : Fin cfg0.N) (j : S1x2048.Idx) : ((cfg0.win 9).blk t).view.emb j = j := by
  obtain ⟨e0, e1⟩ := idx_zero9 t
  funext a; apply Fin.ext
  match a with
  | ⟨0, _⟩ => show win0_9.index t (0 : Fin 2) * 1 + 1 * (j 0).val = (j 0).val; omega
  | ⟨1, _⟩ => show win0_9.index t (1 : Fin 2) * 2048 + 1 * (j 1).val = (j 1).val; omega
/-- Window 10's block is its whole array: an index of the block is the same index of the array. -/
theorem emb10 (t : Fin cfg0.N) (j : S1x2048.Idx) : ((cfg0.win 10).blk t).view.emb j = j := by
  obtain ⟨e0, e1⟩ := idx_zero10 t
  funext a; apply Fin.ext
  match a with
  | ⟨0, _⟩ => show win0_10.index t (0 : Fin 2) * 1 + 1 * (j 0).val = (j 0).val; omega
  | ⟨1, _⟩ => show win0_10.index t (1 : Fin 2) * 2048 + 1 * (j 1).val = (j 1).val; omega
/-- Window 11's block is its whole array: an index of the block is the same index of the array. -/
theorem emb11 (t : Fin cfg0.N) (j : S2048x2048.Idx) : ((cfg0.win 11).blk t).view.emb j = j := by
  obtain ⟨e0, e1⟩ := idx_zero11 t
  funext a; apply Fin.ext
  match a with
  | ⟨0, _⟩ => show win0_11.index t (0 : Fin 2) * 2048 + 1 * (j 0).val = (j 0).val; omega
  | ⟨1, _⟩ => show win0_11.index t (1 : Fin 2) * 2048 + 1 * (j 1).val = (j 1).val; omega
/-- Window 12's block is its whole array: an index of the block is the same index of the array. -/
theorem emb12 (t : Fin cfg0.N) (j : S2048x2048.Idx) : ((cfg0.win 12).blk t).view.emb j = j := by
  obtain ⟨e0, e1⟩ := idx_zero12 t
  funext a; apply Fin.ext
  match a with
  | ⟨0, _⟩ => show win0_12.index t (0 : Fin 2) * 2048 + 1 * (j 0).val = (j 0).val; omega
  | ⟨1, _⟩ => show win0_12.index t (1 : Fin 2) * 2048 + 1 * (j 1).val = (j 1).val; omega
/-- Window 13's block is its whole array: an index of the block is the same index of the array. -/
theorem emb13 (t : Fin cfg0.N) (j : S2x2048.Idx) : ((cfg0.win 13).blk t).view.emb j = j := by
  obtain ⟨e0, e1⟩ := idx_zero13 t
  funext a; apply Fin.ext
  match a with
  | ⟨0, _⟩ => show win0_13.index t (0 : Fin 2) * 2 + 1 * (j 0).val = (j 0).val; omega
  | ⟨1, _⟩ => show win0_13.index t (1 : Fin 2) * 2048 + 1 * (j 1).val = (j 1).val; omega

/-- So an input window's block is its array as the region finds it. -/
theorem iblk0_eq (c : Dev nD) (t : Fin cfg0.N) : iblk m c 0 t = V m c main_arg0 := by
  funext j; show V m c main_arg0 (((cfg0.win 0).blk t).view.emb j) = V m c main_arg0 j; rw [emb0]
/-- Window 1's block at every grid point is its whole array. -/
theorem iblk1_eq (c : Dev nD) (t : Fin cfg0.N) : iblk m c 1 t = V m c main_v21 := by
  funext j; show V m c main_v21 (((cfg0.win 1).blk t).view.emb j) = V m c main_v21 j; rw [emb1]
/-- Window 2's block at every grid point is its whole array. -/
theorem iblk2_eq (c : Dev nD) (t : Fin cfg0.N) : iblk m c 2 t = V m c main_v22 := by
  funext j; show V m c main_v22 (((cfg0.win 2).blk t).view.emb j) = V m c main_v22 j; rw [emb2]
/-- Window 3's block at every grid point is its whole array. -/
theorem iblk3_eq (c : Dev nD) (t : Fin cfg0.N) : iblk m c 3 t = V m c main_v23 := by
  funext j; show V m c main_v23 (((cfg0.win 3).blk t).view.emb j) = V m c main_v23 j; rw [emb3]
/-- Window 4's block at every grid point is its whole array. -/
theorem iblk4_eq (c : Dev nD) (t : Fin cfg0.N) : iblk m c 4 t = V m c main_v24 := by
  funext j; show V m c main_v24 (((cfg0.win 4).blk t).view.emb j) = V m c main_v24 j; rw [emb4]
/-- Window 5's block at every grid point is its whole array. -/
theorem iblk5_eq (c : Dev nD) (t : Fin cfg0.N) : iblk m c 5 t = V m c main_v1 := by
  funext j; show V m c main_v1 (((cfg0.win 5).blk t).view.emb j) = V m c main_v1 j; rw [emb5]
/-- Window 6's block at every grid point is its whole array. -/
theorem iblk6_eq (c : Dev nD) (t : Fin cfg0.N) : iblk m c 6 t = V m c main_v6 := by
  funext j; show V m c main_v6 (((cfg0.win 6).blk t).view.emb j) = V m c main_v6 j; rw [emb6]
/-- Window 7's block at every grid point is its whole array. -/
theorem iblk7_eq (c : Dev nD) (t : Fin cfg0.N) : iblk m c 7 t = V m c main_v8 := by
  funext j; show V m c main_v8 (((cfg0.win 7).blk t).view.emb j) = V m c main_v8 j; rw [emb7]
/-- Window 8's block at every grid point is its whole array. -/
theorem iblk8_eq (c : Dev nD) (t : Fin cfg0.N) : iblk m c 8 t = V m c main_v13 := by
  funext j; show V m c main_v13 (((cfg0.win 8).blk t).view.emb j) = V m c main_v13 j; rw [emb8]
/-- Window 9's block at every grid point is its whole array. -/
theorem iblk9_eq (c : Dev nD) (t : Fin cfg0.N) : iblk m c 9 t = V m c main_v25 := by
  funext j; show V m c main_v25 (((cfg0.win 9).blk t).view.emb j) = V m c main_v25 j; rw [emb9]
/-- Window 10's block at every grid point is its whole array. -/
theorem iblk10_eq (c : Dev nD) (t : Fin cfg0.N) : iblk m c 10 t = V m c main_v26 := by
  funext j; show V m c main_v26 (((cfg0.win 10).blk t).view.emb j) = V m c main_v26 j; rw [emb10]
/-- Window 11's block at every grid point is its whole array. -/
theorem iblk11_eq (c : Dev nD) (t : Fin cfg0.N) : iblk m c 11 t = V m c main_v15 := by
  funext j; show V m c main_v15 (((cfg0.win 11).blk t).view.emb j) = V m c main_v15 j; rw [emb11]
/-- Window 12's block at every grid point is its whole array. -/
theorem iblk12_eq (c : Dev nD) (t : Fin cfg0.N) : iblk m c 12 t = V m c main_v20 := by
  funext j; show V m c main_v20 (((cfg0.win 12).blk t).view.emb j) = V m c main_v20 j; rw [emb12]

/-- The proof data: the arrays as the region finds them, each input's block left in place, the result's block at the two
    last states, the scratch as above, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => carryOf (T0 m c 8192) (T1 m c 8192)
  Φ t := PhiN m c t.val
  q _ := fullShare
  owed _ := 0

/-- Each window starts on the contents its array has at launch. -/
theorem A_eq (c : Dev nD) (w : Fin cfg0.W) : (dats m 0 c).A w = V m c (Pipeline.arrRef spec0 w) := by dsimp only [dats]
/-- Window 0 holds its whole array before the body of every grid point. -/
theorem before0 (c : Dev nD) (t : Fin cfg0.N) (d) : (dats m 0 c).before 0 t d = V m c main_arg0 :=
  (before0_0_of m (dats m 0 c) rfl (fun _ => rfl) t d).trans (iblk0_eq m c t)
/-- Window 0 holds its whole array after the body of every grid point. -/
theorem after0 (c : Dev nD) (t : Fin cfg0.N) : (dats m 0 c).after 0 t = V m c main_arg0 := iblk0_eq m c t
/-- Window 1 holds its whole array before the body of every grid point. -/
theorem before1 (c : Dev nD) (t : Fin cfg0.N) (d) : (dats m 0 c).before 1 t d = V m c main_v21 :=
  (before0_1_of m (dats m 0 c) rfl (fun _ => rfl) t d).trans (iblk1_eq m c t)
/-- Window 1 holds its whole array after the body of every grid point. -/
theorem after1 (c : Dev nD) (t : Fin cfg0.N) : (dats m 0 c).after 1 t = V m c main_v21 := iblk1_eq m c t
/-- Window 2 holds its whole array before the body of every grid point. -/
theorem before2 (c : Dev nD) (t : Fin cfg0.N) (d) : (dats m 0 c).before 2 t d = V m c main_v22 :=
  (before0_2_of m (dats m 0 c) rfl (fun _ => rfl) t d).trans (iblk2_eq m c t)
/-- Window 2 holds its whole array after the body of every grid point. -/
theorem after2 (c : Dev nD) (t : Fin cfg0.N) : (dats m 0 c).after 2 t = V m c main_v22 := iblk2_eq m c t
/-- Window 3 holds its whole array before the body of every grid point. -/
theorem before3 (c : Dev nD) (t : Fin cfg0.N) (d) : (dats m 0 c).before 3 t d = V m c main_v23 :=
  (before0_3_of m (dats m 0 c) rfl (fun _ => rfl) t d).trans (iblk3_eq m c t)
/-- Window 3 holds its whole array after the body of every grid point. -/
theorem after3 (c : Dev nD) (t : Fin cfg0.N) : (dats m 0 c).after 3 t = V m c main_v23 := iblk3_eq m c t
/-- Window 4 holds its whole array before the body of every grid point. -/
theorem before4 (c : Dev nD) (t : Fin cfg0.N) (d) : (dats m 0 c).before 4 t d = V m c main_v24 :=
  (before0_4_of m (dats m 0 c) rfl (fun _ => rfl) t d).trans (iblk4_eq m c t)
/-- Window 4 holds its whole array after the body of every grid point. -/
theorem after4 (c : Dev nD) (t : Fin cfg0.N) : (dats m 0 c).after 4 t = V m c main_v24 := iblk4_eq m c t
/-- Window 5 holds its whole array before the body of every grid point. -/
theorem before5 (c : Dev nD) (t : Fin cfg0.N) (d) : (dats m 0 c).before 5 t d = V m c main_v1 :=
  (before0_5_of m (dats m 0 c) rfl (fun _ => rfl) t d).trans (iblk5_eq m c t)
/-- Window 5 holds its whole array after the body of every grid point. -/
theorem after5 (c : Dev nD) (t : Fin cfg0.N) : (dats m 0 c).after 5 t = V m c main_v1 := iblk5_eq m c t
/-- Window 6 holds its whole array before the body of every grid point. -/
theorem before6 (c : Dev nD) (t : Fin cfg0.N) (d) : (dats m 0 c).before 6 t d = V m c main_v6 :=
  (before0_6_of m (dats m 0 c) rfl (fun _ => rfl) t d).trans (iblk6_eq m c t)
/-- Window 6 holds its whole array after the body of every grid point. -/
theorem after6 (c : Dev nD) (t : Fin cfg0.N) : (dats m 0 c).after 6 t = V m c main_v6 := iblk6_eq m c t
/-- Window 7 holds its whole array before the body of every grid point. -/
theorem before7 (c : Dev nD) (t : Fin cfg0.N) (d) : (dats m 0 c).before 7 t d = V m c main_v8 :=
  (before0_7_of m (dats m 0 c) rfl (fun _ => rfl) t d).trans (iblk7_eq m c t)
/-- Window 7 holds its whole array after the body of every grid point. -/
theorem after7 (c : Dev nD) (t : Fin cfg0.N) : (dats m 0 c).after 7 t = V m c main_v8 := iblk7_eq m c t
/-- Window 8 holds its whole array before the body of every grid point. -/
theorem before8 (c : Dev nD) (t : Fin cfg0.N) (d) : (dats m 0 c).before 8 t d = V m c main_v13 :=
  (before0_8_of m (dats m 0 c) rfl (fun _ => rfl) t d).trans (iblk8_eq m c t)
/-- Window 8 holds its whole array after the body of every grid point. -/
theorem after8 (c : Dev nD) (t : Fin cfg0.N) : (dats m 0 c).after 8 t = V m c main_v13 := iblk8_eq m c t
/-- Window 9 holds its whole array before the body of every grid point. -/
theorem before9 (c : Dev nD) (t : Fin cfg0.N) (d) : (dats m 0 c).before 9 t d = V m c main_v25 :=
  (before0_9_of m (dats m 0 c) rfl (fun _ => rfl) t d).trans (iblk9_eq m c t)
/-- Window 9 holds its whole array after the body of every grid point. -/
theorem after9 (c : Dev nD) (t : Fin cfg0.N) : (dats m 0 c).after 9 t = V m c main_v25 := iblk9_eq m c t
/-- Window 10 holds its whole array before the body of every grid point. -/
theorem before10 (c : Dev nD) (t : Fin cfg0.N) (d) : (dats m 0 c).before 10 t d = V m c main_v26 :=
  (before0_10_of m (dats m 0 c) rfl (fun _ => rfl) t d).trans (iblk10_eq m c t)
/-- Window 10 holds its whole array after the body of every grid point. -/
theorem after10 (c : Dev nD) (t : Fin cfg0.N) : (dats m 0 c).after 10 t = V m c main_v26 := iblk10_eq m c t
/-- Window 11 holds its whole array before the body of every grid point. -/
theorem before11 (c : Dev nD) (t : Fin cfg0.N) (d) : (dats m 0 c).before 11 t d = V m c main_v15 :=
  (before0_11_of m (dats m 0 c) rfl (fun _ => rfl) t d).trans (iblk11_eq m c t)
/-- Window 11 holds its whole array after the body of every grid point. -/
theorem after11 (c : Dev nD) (t : Fin cfg0.N) : (dats m 0 c).after 11 t = V m c main_v15 := iblk11_eq m c t
/-- Window 12 holds its whole array before the body of every grid point. -/
theorem before12 (c : Dev nD) (t : Fin cfg0.N) (d) : (dats m 0 c).before 12 t d = V m c main_v20 :=
  (before0_12_of m (dats m 0 c) rfl (fun _ => rfl) t d).trans (iblk12_eq m c t)
/-- Window 12 holds its whole array after the body of every grid point. -/
theorem after12 (c : Dev nD) (t : Fin cfg0.N) : (dats m 0 c).after 12 t = V m c main_v20 := iblk12_eq m c t
/-- The output window ends on the two last states. -/
theorem after13 (c : Dev nD) (t : Fin cfg0.N) : (dats m 0 c).after 13 t = carryOf (T0 m c 8192) (T1 m c 8192) := rfl

/-- Which branches the body takes at a grid point. -/
theorem conds : ∀ t : Fin grid0.N,
    ((Scalar.cmpi .ne (Scalar.extui (Scalar.cmpi .eq (BitVec.ofNat 32 (grid0.coords t 0).val) 0#32)) 0#32 : BitVec 1) = 1#1 ↔ t.val = 0)
    ∧ ((Scalar.cmpi .ne (Scalar.extui (Scalar.cmpi .sgt (BitVec.ofNat 32 (grid0.coords t 0).val) 0#32)) 0#32 : BitVec 1) = 1#1 ↔ 0 < t.val)
    ∧ (k0_cond3 (grid0.coords t) = 1#1 ↔ 0 < t.val ∧ t.val < 64)
    ∧ (k0_cond4 (grid0.coords t) = 1#1 ↔ t.val = 0)
    ∧ (k0_cond5 (grid0.coords t) = 1#1 ↔ t.val = 64)
    ∧ (grid0.coords t 0).val = t.val ∧ t.val < 65 := by decide +kernel

/-- Owning a buffer at some contents is owning it at equal contents. -/
theorem owns_of_eq {c : Thread nD τ} {sp : Space} {sh : Shape} {e : EltTy} {M : Memref sig c.2.kind sp sh e} {q : PosShare TreeShare}
    {X Y : sh.Idx → Elt F e} (e0 : X = Y) : (owns c M q X : sProp 𝕄) ⊢ owns c M q Y := by rw [e0]

/-- What the body of a grid point starts from: the scratch buffers and every window at its contents before. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)))
/-- What the body of a grid point ends with: the scratch buffers one chunk further and every window at its contents after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ (dats m 0 c).leavesExact 13 t)

/-- Before the first grid point the scratch buffers hold anything. -/
theorem PhiN_zero (c : Dev nD) : PhiN m c 0 = iprop(((∃ D, owns (c : Thread nD τ) (Memref.whole cc0_scratch0) fullShare D)
    ∗ (∃ D, owns (c : Thread nD τ) (Memref.whole cc0_scratch1) fullShare D)
    ∗ (∃ D, owns (c : Thread nD τ) (Memref.whole cc0_scratch2) fullShare D)) ∗ ∃ r, prngReg c r) := by
  simp only [owns_whole]
  show Pipeline.ΦA spec0 c = _
  unfold Pipeline.ΦA
  rw [scopedRest0_eq]

/-- After grid point `q` the scratch buffers hold a chunk of states of layer 0 and the two states carried on. -/
theorem PhiN_succ (c : Dev nD) (q : ℕ) : PhiN m c (q + 1) = iprop((owns (c : Thread nD τ) (Memref.whole cc0_scratch0) fullShare (B0 m c (min q 63))
      ∗ (∃ D, owns (c : Thread nD τ) (Memref.whole cc0_scratch1) fullShare D)
      ∗ owns (c : Thread nD τ) (Memref.whole cc0_scratch2) fullShare (carryOf (T0 m c (128 * min (q + 1) 64)) (T1 m c (128 * q))))
      ∗ ∃ r, prngReg c r) := rfl

/-- The body of the first grid point runs. -/
theorem soundA (c : Dev nD) (t : Fin cfg0.N) (ht : t.val = 0) :
    bodyPre m c t ⊢ wp frame (wpE (defs₀ (F := F)) Variants.none c none) Set.univ (bodyAt0 t) (fun _ => bodyPost m c t) := by
  obtain ⟨k1, k2, k3, k4, k5, ki, kN⟩ := conds t
  unfold bodyPre bodyPost bodyAt0
  rw [show (dats m 0 c).Φ t.castSucc = PhiN m c t.val from rfl, show (dats m 0 c).Φ t.succ = PhiN m c (t.val + 1) from rfl]
  unfold Dat.owesAt Pipeline.owesWithin
  rw [show (dats m 0 c).owed t.castSucc = 0 from rfl, show (dats m 0 c).owed t.succ = 0 from rfl]
  simp only [before0, before1, before2, before3, before4, before5, before6, before7, before8, before9, before10, before11, before12, after0, after1, after2, after3, after4, after5, after6, after7, after8, after9, after10, after11, after12]
  rw [ht, PhiN_zero, PhiN_succ]
  rw [(dats m 0 c).leavesExact_idle 13 t (by show (!(k0_cond5 (grid0.coords t) == 1#1)) = true; simp only [Bool.not_eq_true', beq_eq_false_iff_ne]; exact fun e => by have := k5.mp e; omega)
    (by rw [← Bool.not_eq_true]; exact fun e => by have := (flush0_13 t).mp e; omega)]
  iintro ⟨⟨⟨⟨%D15, H15⟩, ⟨%D16, H16⟩, ⟨%D17, H17⟩⟩, Hg⟩, ⟨%W, -, HW⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (triA (F := F) c (grid0.coords t) _ _ _ _ _ _ _ _ _ _ _ _ _ _ _ _ _ _ _ _ _ _ _ _ _ _ _ _ _ _ _ _ _ _ (V m c main_arg0) (V m c main_v21) (V m c main_v22) (V m c main_v23) (V m c main_v24) (V m c main_v1) (V m c main_v6) (V m c main_v8) (V m c main_v13) (V m c main_v25) (V m c main_v26) (V m c main_v15) (V m c main_v20) _ _ _ _
    (k1.mpr ht) (fun e => by have := k2.mp e; omega) (fun e => by have := k3.mp e; omega) (k4.mpr ht) (fun e => by have := k5.mp e; omega) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, H16, H17⟩
  rw [ki, ht]
  isplitl [H15 H16 H17 Hg]
  · isplitl [H15 H16 H17]
    · isplitl [H15]; · iapply (owns_of_eq (e0 := states0_eq (V m c main_arg0) (V m c main_v21) (V m c main_v22) (V m c main_v23) (V m c main_v24) (V m c main_v1) (V m c main_v6) 0)); iexact H15
      isplitl [H16]; · iexists _; iexact H16
      iapply (owns_of_eq (e0 := congrArg₂ carryOf (state0_chunk (V m c main_arg0) (V m c main_v21) (V m c main_v22) (V m c main_v23) (V m c main_v24) (V m c main_v1) (V m c main_v6) 0) rfl)); iexact H17
    iexact Hg
  isplitl [HW]
  · iexists W; isplitr; · ipureintro; exact fun _ _ => Or.inl trivial
    iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d14; iexact H14

/-- The body of a grid point between the first and the last runs. -/
theorem soundB (c : Dev nD) (t : Fin cfg0.N) (ht : 0 < t.val ∧ t.val < 64) :
    bodyPre m c t ⊢ wp frame (wpE (defs₀ (F := F)) Variants.none c none) Set.univ (bodyAt0 t) (fun _ => bodyPost m c t) := by
  obtain ⟨k1, k2, k3, k4, k5, ki, kN⟩ := conds t
  obtain ⟨q, hq⟩ : ∃ q, t.val = q + 1 := ⟨t.val - 1, by omega⟩
  unfold bodyPre bodyPost bodyAt0
  rw [show (dats m 0 c).Φ t.castSucc = PhiN m c t.val from rfl, show (dats m 0 c).Φ t.succ = PhiN m c (t.val + 1) from rfl]
  unfold Dat.owesAt Pipeline.owesWithin
  rw [show (dats m 0 c).owed t.castSucc = 0 from rfl, show (dats m 0 c).owed t.succ = 0 from rfl]
  simp only [before0, before1, before2, before3, before4, before5, before6, before7, before8, before9, before10, before11, before12, after0, after1, after2, after3, after4, after5, after6, after7, after8, after9, after10, after11, after12]
  rw [hq, PhiN_succ, PhiN_succ, Nat.min_eq_left (by omega : q ≤ 63), Nat.min_eq_left (by omega : q + 1 ≤ 63), Nat.min_eq_left (by omega : q + 1 ≤ 64), Nat.min_eq_left (by omega : q + 1 + 1 ≤ 64)]
  rw [(dats m 0 c).leavesExact_idle 13 t (by show (!(k0_cond5 (grid0.coords t) == 1#1)) = true; simp only [Bool.not_eq_true', beq_eq_false_iff_ne]; exact fun e => by have := k5.mp e; omega)
    (by rw [← Bool.not_eq_true]; exact fun e => by have := (flush0_13 t).mp e; omega)]
  iintro ⟨⟨⟨H15, ⟨%D16, H16⟩, H17⟩, Hg⟩, ⟨%W, -, HW⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (triB (F := F) c (grid0.coords t) _ _ _ _ _ _ _ _ _ _ _ _ _ _ _ _ _ _ _ _ _ _ _ _ _ _ _ _ _ _ _ _ _ _ (V m c main_arg0) (V m c main_v21) (V m c main_v22) (V m c main_v23) (V m c main_v24) (V m c main_v1) (V m c main_v6) (V m c main_v8) (V m c main_v13) (V m c main_v25) (V m c main_v26) (V m c main_v15) (V m c main_v20) _ (B0 m c q) _ (carryOf (T0 m c (128 * (q + 1))) (T1 m c (128 * q)))
    (fun e => by have := k1.mp e; omega) (k2.mpr ht.1) (k3.mpr ht) (fun e => by have := k4.mp e; omega) (fun e => by have := k5.mp e; omega) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, ⟨%e16, H16⟩, H17⟩
  rw [ki, hq, carryRow_carryOf0, carryRow_carryOf1]
  isplitl [H15 H16 H17 Hg]
  · isplitl [H15 H16 H17]
    · isplitl [H15]; · iapply (owns_of_eq (e0 := states0_eq (V m c main_arg0) (V m c main_v21) (V m c main_v22) (V m c main_v23) (V m c main_v24) (V m c main_v1) (V m c main_v6) (q + 1))); iexact H15
      isplitl [H16]; · iexists _; iexact H16
      iapply (owns_of_eq (e0 := congrArg₂ carryOf (state0_chunk (V m c main_arg0) (V m c main_v21) (V m c main_v22) (V m c main_v23) (V m c main_v24) (V m c main_v1) (V m c main_v6) (q + 1)) (state1_chunk (V m c main_arg0) (V m c main_v21) (V m c main_v22) (V m c main_v23) (V m c main_v24) (V m c main_v1) (V m c main_v6) (V m c main_v8) (V m c main_v13) (V m c main_v25) (V m c main_v26) (V m c main_v15) (V m c main_v20) q))); iexact H17
    iexact Hg
  isplitl [HW]
  · iexists W; isplitr; · ipureintro; exact fun _ _ => Or.inl trivial
    iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexists d14; iexact H14

/-- The body of the last grid point runs. -/
theorem soundC (c : Dev nD) (t : Fin cfg0.N) (ht : t.val = 64) :
    bodyPre m c t ⊢ wp frame (wpE (defs₀ (F := F)) Variants.none c none) Set.univ (bodyAt0 t) (fun _ => bodyPost m c t) := by
  obtain ⟨k1, k2, k3, k4, k5, ki, kN⟩ := conds t
  unfold bodyPre bodyPost bodyAt0
  rw [show (dats m 0 c).Φ t.castSucc = PhiN m c t.val from rfl, show (dats m 0 c).Φ t.succ = PhiN m c (t.val + 1) from rfl]
  unfold Dat.owesAt Pipeline.owesWithin
  rw [show (dats m 0 c).owed t.castSucc = 0 from rfl, show (dats m 0 c).owed t.succ = 0 from rfl]
  simp only [before0, before1, before2, before3, before4, before5, before6, before7, before8, before9, before10, before11, before12, after0, after1, after2, after3, after4, after5, after6, after7, after8, after9, after10, after11, after12]
  have hq : t.val = 63 + 1 := ht
  rw [hq, PhiN_succ, PhiN_succ, Nat.min_self 63, Nat.min_eq_right (by omega : 63 ≤ 63 + 1), Nat.min_eq_left (by omega : 63 + 1 ≤ 64), Nat.min_eq_right (by omega : 64 ≤ 63 + 1 + 1)]
  rw [show (dats m 0 c).leavesExact 13 t = owns (c : Thread nD τ) (st0_13 t) fullShare (carryOf (T0 m c 8192) (T1 m c 8192)) from by
    unfold Dat.leavesExact
    rw [show cfg0.idle 13 (cfg0.grid.coords t) = false from by show (!(k0_cond5 (grid0.coords t) == 1#1)) = false; rw [k5.mpr ht]; rfl]
    rfl]
  iintro ⟨⟨⟨H15, ⟨%D16, H16⟩, H17⟩, Hg⟩, ⟨%W, -, HW⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (triC (F := F) c (grid0.coords t) _ _ _ _ _ _ _ _ _ _ _ _ _ _ _ _ _ _ _ _ _ _ _ _ _ _ _ _ _ _ _ _ _ _ (V m c main_arg0) (V m c main_v21) (V m c main_v22) (V m c main_v23) (V m c main_v24) (V m c main_v1) (V m c main_v6) (V m c main_v8) (V m c main_v13) (V m c main_v25) (V m c main_v26) (V m c main_v15) (V m c main_v20) _ (B0 m c 63) _ (carryOf (T0 m c (128 * (63 + 1))) (T1 m c (128 * 63)))
    (fun e => by have := k1.mp e; omega) (k2.mpr (by omega)) (fun e => by have := k3.mp e; omega) (fun e => by have := k4.mp e; omega) (k5.mpr ht) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, H15, ⟨%e16, H16⟩, H17⟩
  rw [carryRow_carryOf0, carryRow_carryOf1]
  isplitl [H15 H16 H17 Hg]
  · isplitl [H15 H16 H17]
    · isplitl [H15]; · iexact H15
      isplitl [H16]; · iexists _; iexact H16
      iapply (owns_of_eq (e0 := congrArg₂ carryOf rfl (state1_chunk (V m c main_arg0) (V m c main_v21) (V m c main_v22) (V m c main_v23) (V m c main_v24) (V m c main_v1) (V m c main_v6) (V m c main_v8) (V m c main_v13) (V m c main_v25) (V m c main_v26) (V m c main_v15) (V m c main_v20) 63))); iexact H17
    iexact Hg
  isplitl [HW]
  · iexists W; isplitr; · ipureintro; exact fun _ _ => Or.inl trivial
    iexact HW
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (owns_of_eq (e0 := congrArg₂ carryOf rfl (state1_chunk (V m c main_arg0) (V m c main_v21) (V m c main_v22) (V m c main_v23) (V m c main_v24) (V m c main_v1) (V m c main_v6) (V m c main_v8) (V m c main_v13) (V m c main_v25) (V m c main_v26) (V m c main_v15) (V m c main_v20) 63))); iexact H14

/-- The body the grid calls is the printed body at the windows of the grid point. -/
theorem defs₀_row (t : Fin cfg0.N) :
    defs₀ (F := F) .tc cfg0.body (cfg0.bodyArgs t (cfg0.slots t)) = bodyAt0 t := by
  unfold defs₀; rw [Defs.onTc_tc]

/-- The body of every grid point runs. -/
theorem sound (c : Dev nD) (t : Fin cfg0.N) :
    bodyPre m c t ⊢ wp frame (wpE (defs₀ (F := F)) Variants.none c none) Set.univ (bodyAt0 t) (fun _ => bodyPost m c t) := by
  have hN : t.val < 65 := (conds t).2.2.2.2.2.2
  rcases Nat.eq_zero_or_pos t.val with h | h
  · exact soundA m c t h
  · rcases Nat.lt_or_ge t.val 64 with h' | h'
    · exact soundB m c t ⟨h, h'⟩
    · exact soundC m c t (by omega)

/-- The body of every grid point runs, in the form the launch asks for. -/
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

/-- The run of the whole program: every array and buffer as the proof data says, every counter zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun _ => .rfl)
    (hout := fun c => by
      rw [show (dats m 0 c).Φ (Fin.last cfg0.N) = PhiN m c (64 + 1) from rfl]
      refine BIBase.Entails.trans ?_ (BIBase.Entails.of_eq (PhiN_zero m c).symm)
      rw [PhiN_succ]
      iintro ⟨⟨H15, H16, H17⟩, Hg⟩
      isplitl [H15 H16 H17]
      · isplitl [H15]; · iexists _; iexact H15
        isplitl [H16]; · iexact H16
        iexists _; iexact H17
      iexact Hg)
    (hQ' := fun _ h => h)

/-- The result array after the region: the two last states. -/
theorem out_arr (c : Dev nD) : (dats m 0 c).arrAt 13 cfg0.N = carryOf (T0 m c 8192) (T1 m c 8192) :=
  (dats m 0 c).arrAt_eq_of_cover 13 (carryOf (T0 m c 8192) (T1 m c 8192))
    (fun t _ => by
      funext j
      show carryOf (T0 m c 8192) (T1 m c 8192) j = carryOf (T0 m c 8192) (T1 m c 8192) (((cfg0.win 13).blk t).view.emb j)
      rw [emb13])
    (fun i => ⟨(⟨64, by decide⟩ : Fin cfg0.N), (flush0_13 _).mpr (by decide), by
      have h := ((cfg0.win 13).blk (⟨64, by decide⟩ : Fin cfg0.N)).view.emb_mem_set i; rwa [emb13] at h⟩)

/-- The program's result: the two last states, one page each. -/
def outOf (c : Dev nD) : Vec F S2x1x2048 .f32 :=
  shapeCast S2x1x2048 (carryOf (T0 m c 8192) (T1 m c 8192)) shapeCasts_S2x2048_S2x1x2048

/-- The program's result after the kernel and the reshape that follows it. -/
theorem out_eq (c : Dev nD) : Pipeline.afterTail₀ cfgs (dats m) 0 (V0 m) [hostOps1] c main_v28 = outOf m c := by
  unfold Pipeline.afterTail₀
  show StableHlo.after [StableHlo.reshape main_v27 main_v28 (rfl : (.f32 : EltTy) = .f32) shapeCasts_S2x2048_S2x1x2048] _ (Proc.devRef .tc main_v28) = _
  rw [StableHlo.after_cons, StableHlo.after_nil, StableHlo.reshape_result']
  have e := (Pipeline.withArrays_arr spec0 launch0.win.arr_inj c (V0 m c) (fun w => (dats m 0 c).arrAt w cfg0.N) 13).trans (out_arr m c)
  exact congrArg (fun A => shapeCast S2x1x2048 A shapeCasts_S2x2048_S2x1x2048) e

/-- The run of the whole program: the result at the two last states, every argument as launched, every counter zero. -/
theorem run : θ_run defs (onTc (τ := τ) (main (F := F))) ⟨m, fun _ => 0, ρ⟩ (fun r => (∀ c : Dev nD,
      r.2.mem ((c.tc : Thread nD τ).loc main_v28) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => have h := hr.1
     ⟨((h c).2 main_v28 (Pipeline.mem_restRefs_of main_v28 (by decide) (by decide))).trans (out_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩, hr.2⟩) (run_main m ρ)

end Cert.KernelIdeal.Hand
-- ==== Proof.RefOps.lean ====
/-
  The reference's host operations as lists, stretch by stretch: before, between and after its two loops, and the parts of
  each loop's body, with the arrays that each stretch writes.
-/
module

public import proofs.«01_k».proof.Proof.Gen.ReferenceIdeal
public import proofs.«01_k».proof.Proof.Steps
public import Idealize.ShloMosaic.Lib.Pipeline.RegionsLoop
public import Idealize.ShloMosaic.Lib.StableHlo.RunLoop
public import Idealize.ShloMosaic.Lib.Scf.ExitTest
public import Idealize.ShloMosaic.Lib.Scf.Counter

@[expose] public section

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The reference's operations before its first loop. -/
abbrev preOps : List (HloOp τ sig (Elt F)) :=
  [ StableHlo.unary main_arg0 main_v0 ((transpose S8192x1 [1, 0] · transposes_S1x8192_S8192x1_1_0) : (⟨S1x8192, .f32⟩ : BufTy).Contents (Elt F) → (⟨S8192x1, .f32⟩ : BufTy).Contents (Elt F)),
    StableHlo.unary main_v0 main_v1 (broadcastInDim S8192x1x1 ![0, 1] bcast_S8192x1_S8192x1x1_0_1 : (⟨S8192x1, .f32⟩ : BufTy).Contents (Elt F) → (⟨S8192x1x1, .f32⟩ : BufTy).Contents (Elt F)),
    StableHlo.unary main_arg1 main_v2 ((extractStridedSlice S1x1x2048 ![0, 0, 0] · slices_S2x1x2048_S1x1x2048_0_0_0) : (⟨S2x1x2048, .f32⟩ : BufTy).Contents (Elt F) → (⟨S1x1x2048, .f32⟩ : BufTy).Contents (Elt F)),
    StableHlo.reshape main_v2 main_v3 (rfl : (.f32 : EltTy) = .f32) shapeCasts_S1x1x2048_S1x2048,
    StableHlo.binary main_v1 main_arg2 main_v4 ((fun l r => Host.dotGeneral dot_S8192x1x1_S2048x1_S8192x1x2048_2_1_01_0_n_n none l r) : (⟨S8192x1x1, .f32⟩ : BufTy).Contents (Elt F) → (⟨S2048x1, .f32⟩ : BufTy).Contents (Elt F) → (⟨S8192x1x2048, .f32⟩ : BufTy).Contents (Elt F)),
    StableHlo.unary main_arg4 main_v5 (broadcastInDim S1x1x2048 ![2] bcast_S2048_S1x1x2048_2 : (⟨S2048, .f32⟩ : BufTy).Contents (Elt F) → (⟨S1x1x2048, .f32⟩ : BufTy).Contents (Elt F)),
    StableHlo.unary main_v5 main_v6 (broadcastInDim S8192x1x2048 ![0, 1, 2] bcast_S1x1x2048_S8192x1x2048_0_1_2 : (⟨S1x1x2048, .f32⟩ : BufTy).Contents (Elt F) → (⟨S8192x1x2048, .f32⟩ : BufTy).Contents (Elt F)),
    StableHlo.binary main_v4 main_v6 main_v7 (addf : (⟨S8192x1x2048, .f32⟩ : BufTy).Contents (Elt F) → (⟨S8192x1x2048, .f32⟩ : BufTy).Contents (Elt F) → (⟨S8192x1x2048, .f32⟩ : BufTy).Contents (Elt F)),
    StableHlo.nullary main_cst (constant S_ .f32 0x00000000#32),
    StableHlo.unary main_cst main_v8 (broadcastInDim S8192x1x2048 ![] bcast_S_S8192x1x2048 : (⟨S_, .f32⟩ : BufTy).Contents (Elt F) → (⟨S8192x1x2048, .f32⟩ : BufTy).Contents (Elt F)),
    StableHlo.nullary main_c (constantI S_ 32 0#32),
    StableHlo.unary main_v7 main_v9_0 id,
    StableHlo.unary main_arg3 main_v9_1 id,
    StableHlo.unary main_arg5 main_v9_2 id,
    StableHlo.unary main_c main_v9_3 id,
    StableHlo.unary main_v3 main_v9_4 id,
    StableHlo.unary main_v8 main_v9_5 id ]

/-- The arrays those write. -/
abbrev preOpsW : List (Ref sig .tc) := [main_v0, main_v1, main_v2, main_v3, main_v4, main_v5, main_v6, main_v7, main_cst, main_v8, main_c, main_v9_0, main_v9_1, main_v9_2, main_v9_3, main_v9_4, main_v9_5]

/-- The operations of this stretch work on declared buffers only. -/
theorem preOps_sub : (preOps : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The operations of this stretch draw no fresh buffers. -/
theorem preOps_fresh : (preOps : List (HloOp τ sig (Elt F))).Forall fun op => op.fresh = ∅ := by
  simp only [List.Forall]; repeat' constructor
/-- The operations of this stretch write the listed buffers only. -/
theorem preOps_writes : (preOps : List (HloOp τ sig (Elt F))).Forall fun op => op.writes ⊆ (preOpsW.map (Proc.devRef (τ := τ) .tc)).toFinset :=
  StableHlo.forall_writes_sub_of_map rfl

/-- Those between its two loops. -/
abbrev midOps : List (HloOp τ sig (Elt F)) :=
  [ StableHlo.unary main_arg1 main_v10 ((extractStridedSlice S1x1x2048 ![1, 0, 0] · slices_S2x1x2048_S1x1x2048_1_0_0) : (⟨S2x1x2048, .f32⟩ : BufTy).Contents (Elt F) → (⟨S1x1x2048, .f32⟩ : BufTy).Contents (Elt F)),
    StableHlo.reshape main_v10 main_v11 (rfl : (.f32 : EltTy) = .f32) shapeCasts_S1x1x2048_S1x2048,
    StableHlo.binary main_v9_5 main_arg6 main_v12 ((fun l r => Host.dotGeneral dot_S8192x1x2048_S2048x2048_S8192x1x2048_2_1_01_0_n_n none l r) : (⟨S8192x1x2048, .f32⟩ : BufTy).Contents (Elt F) → (⟨S2048x2048, .f32⟩ : BufTy).Contents (Elt F) → (⟨S8192x1x2048, .f32⟩ : BufTy).Contents (Elt F)),
    StableHlo.unary main_arg8 main_v13 (broadcastInDim S1x1x2048 ![2] bcast_S2048_S1x1x2048_2 : (⟨S2048, .f32⟩ : BufTy).Contents (Elt F) → (⟨S1x1x2048, .f32⟩ : BufTy).Contents (Elt F)),
    StableHlo.unary main_v13 main_v14 (broadcastInDim S8192x1x2048 ![0, 1, 2] bcast_S1x1x2048_S8192x1x2048_0_1_2 : (⟨S1x1x2048, .f32⟩ : BufTy).Contents (Elt F) → (⟨S8192x1x2048, .f32⟩ : BufTy).Contents (Elt F)),
    StableHlo.binary main_v12 main_v14 main_v15 (addf : (⟨S8192x1x2048, .f32⟩ : BufTy).Contents (Elt F) → (⟨S8192x1x2048, .f32⟩ : BufTy).Contents (Elt F) → (⟨S8192x1x2048, .f32⟩ : BufTy).Contents (Elt F)),
    StableHlo.nullary main_cst_0 (constant S_ .f32 0x00000000#32),
    StableHlo.unary main_cst_0 main_v16 (broadcastInDim S8192x1x2048 ![] bcast_S_S8192x1x2048 : (⟨S_, .f32⟩ : BufTy).Contents (Elt F) → (⟨S8192x1x2048, .f32⟩ : BufTy).Contents (Elt F)),
    StableHlo.nullary main_c_1 (constantI S_ 32 0#32),
    StableHlo.unary main_v15 main_v17_0 id,
    StableHlo.unary main_arg7 main_v17_1 id,
    StableHlo.unary main_arg9 main_v17_2 id,
    StableHlo.unary main_c_1 main_v17_3 id,
    StableHlo.unary main_v11 main_v17_4 id,
    StableHlo.unary main_v16 main_v17_5 id ]

/-- The arrays those write. -/
abbrev midOpsW : List (Ref sig .tc) := [main_v10, main_v11, main_v12, main_v13, main_v14, main_v15, main_cst_0, main_v16, main_c_1, main_v17_0, main_v17_1, main_v17_2, main_v17_3, main_v17_4, main_v17_5]

/-- The operations of this stretch work on declared buffers only. -/
theorem midOps_sub : (midOps : List (HloOp τ sig (Elt F))).Forall fun op => op.bufs ⊆ StableHlo.tcRefs τ sig :=
  ⟨StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The operations of this stretch draw no fresh buffers. -/
theorem midOps_fresh : (midOps : List (HloOp τ sig (Elt F))).Forall fun op => op.fresh = ∅ := by
  simp only [List.Forall]; repeat' constructor
/-- The operations of this stretch write the listed buffers only. -/
theorem midOps_writes : (midOps : List (HloOp τ sig (Elt F))).Forall fun op => op.writes ⊆ (midOpsW.map (Proc.devRef (τ := τ) .tc)).toFinset :=
  StableHlo.forall_writes_sub_of_map rfl

/-- Those after its second loop. -/
abbrev postOps : List (HloOp τ sig (Elt F)) :=
  [ StableHlo.unary main_v9_4 main_v18 (broadcastInDim S1x1x2048 ![1, 2] bcast_S1x2048_S1x1x2048_1_2 : (⟨S1x2048, .f32⟩ : BufTy).Contents (Elt F) → (⟨S1x1x2048, .f32⟩ : BufTy).Contents (Elt F)),
    StableHlo.unary main_v17_4 main_v19 (broadcastInDim S1x1x2048 ![1, 2] bcast_S1x2048_S1x1x2048_1_2 : (⟨S1x2048, .f32⟩ : BufTy).Contents (Elt F) → (⟨S1x1x2048, .f32⟩ : BufTy).Contents (Elt F)),
    StableHlo.binary main_v18 main_v19 main_v20 ((fun a b => concatenate S2x1x2048 0 [⟨S1x1x2048, a⟩, ⟨S1x1x2048, b⟩] concatenates_S1x1x2048_S1x1x2048_S2x1x2048_d0) : (⟨S1x1x2048, .f32⟩ : BufTy).Contents (Elt F) → (⟨S1x1x2048, .f32⟩ : BufTy).Contents (Elt F) → (⟨S2x1x2048, .f32⟩ : BufTy).Contents (Elt F)) ]

/-- The arrays those write. -/
abbrev postOpsW : List (Ref sig .tc) := [main_v18, main_v19, main_v20]

/-- The operations of this stretch work on declared buffers only. -/
theorem postOps_sub : (postOps : List (HloOp τ sig (Elt F))).Forall fun op => op.bufs ⊆ StableHlo.tcRefs τ sig :=
  ⟨StableHlo.unary_bufs_sub .., StableHlo.unary_bufs_sub .., StableHlo.binary_bufs_sub ..⟩
/-- The operations of this stretch draw no fresh buffers. -/
theorem postOps_fresh : (postOps : List (HloOp τ sig (Elt F))).Forall fun op => op.fresh = ∅ := by
  simp only [List.Forall]; repeat' constructor
/-- The operations of this stretch write the listed buffers only. -/
theorem postOps_writes : (postOps : List (HloOp τ sig (Elt F))).Forall fun op => op.writes ⊆ (postOpsW.map (Proc.devRef (τ := τ) .tc)).toFinset :=
  StableHlo.forall_writes_sub_of_map rfl

/-- Loop 0: the condition's two operations. -/
abbrev cond0Ops : List (HloOp τ sig (Elt F)) :=
  [ StableHlo.nullary main_while0c_c_7 (constantI S_ 32 8192#32),
    StableHlo.binary main_v9_3 main_while0c_c_7 main_while0c_v21 (cmpi .slt) ]

/-- The arrays those write. -/
abbrev cond0OpsW : List (Ref sig .tc) := [main_while0c_c_7, main_while0c_v21]

/-- The operations of this stretch work on declared buffers only. -/
theorem cond0Ops_sub : (cond0Ops : List (HloOp τ sig (Elt F))).Forall fun op => op.bufs ⊆ StableHlo.tcRefs τ sig :=
  ⟨StableHlo.nullary_bufs_sub .., StableHlo.binary_bufs_sub ..⟩
/-- The operations of this stretch draw no fresh buffers. -/
theorem cond0Ops_fresh : (cond0Ops : List (HloOp τ sig (Elt F))).Forall fun op => op.fresh = ∅ := by
  simp only [List.Forall]; repeat' constructor
/-- The operations of this stretch write the listed buffers only. -/
theorem cond0Ops_writes : (cond0Ops : List (HloOp τ sig (Elt F))).Forall fun op => op.writes ⊆ (cond0OpsW.map (Proc.devRef (τ := τ) .tc)).toFinset :=
  StableHlo.forall_writes_sub_of_map rfl

/-- Loop 0: the step's row of the input projection is read. -/
abbrev read0Ops : List (HloOp τ sig (Elt F)) :=
  [ StableHlo.nullary main_while0b_call0_c (constantI S_ 32 0#32),
    StableHlo.nullary main_while0b_call0_c_0 (constantI S_ 32 0#32),
    StableHlo.TRef.unaryIndexed (.of main_v9_0 : StableHlo.TRef sig ⟨S8192x1x2048, .f32⟩) ![(.of main_v9_3 : StableHlo.TRef sig ⟨S_, .i32⟩), main_while0b_call0.c, main_while0b_call0.c_0] main_while0b_call0.v0 (fun x i => Host.dynamicSlice S1x1x2048 x (fun k => (i k (Shape.Idx.first h_S_)).toInt) sliceFits_S8192x1x2048_S1x1x2048),
    StableHlo.reshape main_while0b_call0_v0 main_while0b_v21 (rfl : (.f32 : EltTy) = .f32) shapeCasts_S1x1x2048_S1x2048 ]

/-- The arrays those write. -/
abbrev read0OpsW : List (Ref sig .tc) := [main_while0b_call0_c, main_while0b_call0_c_0, main_while0b_call0_v0, main_while0b_v21]

/-- The operations of this stretch work on declared buffers only. -/
theorem read0Ops_sub : (read0Ops : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The operations of this stretch draw no fresh buffers. -/
theorem read0Ops_fresh : (read0Ops : List (HloOp τ sig (Elt F))).Forall fun op => op.fresh = ∅ := by
  simp only [List.Forall]; repeat' constructor
/-- The operations of this stretch write the listed buffers only. -/
theorem read0Ops_writes : (read0Ops : List (HloOp τ sig (Elt F))).Forall fun op => op.writes ⊆ (read0OpsW.map (Proc.devRef (τ := τ) .tc)).toFinset :=
  StableHlo.forall_writes_sub_of_map rfl

/-- Loop 0: the next state is computed. -/
abbrev step0Ops : List (HloOp τ sig (Elt F)) :=
  [ StableHlo.unary main_v9_1 main_while0b_v22 ((transpose S2048x2048 [1, 0] · transposes_S2048x2048_S2048x2048_1_0) : (⟨S2048x2048, .f32⟩ : BufTy).Contents (Elt F) → (⟨S2048x2048, .f32⟩ : BufTy).Contents (Elt F)),
    StableHlo.binary main_v9_4 main_while0b_v22 main_while0b_v23 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    StableHlo.binary main_while0b_v21 main_while0b_v23 main_while0b_v24 (addf : (⟨S1x2048, .f32⟩ : BufTy).Contents (Elt F) → (⟨S1x2048, .f32⟩ : BufTy).Contents (Elt F) → (⟨S1x2048, .f32⟩ : BufTy).Contents (Elt F)),
    StableHlo.unary main_v9_2 main_while0b_v25 (broadcastInDim S1x2048 ![1] bcast_S2048_S1x2048_1 : (⟨S2048, .f32⟩ : BufTy).Contents (Elt F) → (⟨S1x2048, .f32⟩ : BufTy).Contents (Elt F)),
    StableHlo.binary main_while0b_v24 main_while0b_v25 main_while0b_v26 (addf : (⟨S1x2048, .f32⟩ : BufTy).Contents (Elt F) → (⟨S1x2048, .f32⟩ : BufTy).Contents (Elt F) → (⟨S1x2048, .f32⟩ : BufTy).Contents (Elt F)),
    StableHlo.unary main_while0b_v26 main_while0b_v27 (Host.tanh : (⟨S1x2048, .f32⟩ : BufTy).Contents (Elt F) → (⟨S1x2048, .f32⟩ : BufTy).Contents (Elt F)) ]

/-- The arrays those write. -/
abbrev step0OpsW : List (Ref sig .tc) := [main_while0b_v22, main_while0b_v23, main_while0b_v24, main_while0b_v25, main_while0b_v26, main_while0b_v27]

/-- The operations of this stretch work on declared buffers only. -/
theorem step0Ops_sub : (step0Ops : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.binary_bufs_sub .., StableHlo.unary_bufs_sub ..⟩
/-- The operations of this stretch draw no fresh buffers. -/
theorem step0Ops_fresh : (step0Ops : List (HloOp τ sig (Elt F))).Forall fun op => op.fresh = ∅ := by
  simp only [List.Forall]; repeat' constructor
/-- The operations of this stretch write the listed buffers only. -/
theorem step0Ops_writes : (step0Ops : List (HloOp τ sig (Elt F))).Forall fun op => op.writes ⊆ (step0OpsW.map (Proc.devRef (τ := τ) .tc)).toFinset :=
  StableHlo.forall_writes_sub_of_map rfl

/-- Loop 0: the next state is written into the array of states. -/
abbrev write0Ops : List (HloOp τ sig (Elt F)) :=
  [ StableHlo.unary main_while0b_v27 main_while0b_call1_v0 (broadcastInDim S1x1x2048 ![1, 2] bcast_S1x2048_S1x1x2048_1_2),
    StableHlo.nullary main_while0b_call1_c (constantI S_ 32 0#32),
    StableHlo.nullary main_while0b_call1_c_0 (constantI S_ 32 0#32),
    StableHlo.TRef.binaryIndexed (.of main_v9_5 : StableHlo.TRef sig ⟨S8192x1x2048, .f32⟩) main_while0b_call1.v0 ![(.of main_v9_3 : StableHlo.TRef sig ⟨S_, .i32⟩), main_while0b_call1.c, main_while0b_call1.c_0] main_while0b_call1.v1 (fun x u i => Host.dynamicUpdateSlice x u (fun k => (i k (Shape.Idx.first h_S_)).toInt) updateFits_S8192x1x2048_S1x1x2048) ]

/-- The arrays those write. -/
abbrev write0OpsW : List (Ref sig .tc) := [main_while0b_call1_v0, main_while0b_call1_c, main_while0b_call1_c_0, main_while0b_v28]

/-- The operations of this stretch work on declared buffers only. -/
theorem write0Ops_sub : (write0Ops : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The operations of this stretch draw no fresh buffers. -/
theorem write0Ops_fresh : (write0Ops : List (HloOp τ sig (Elt F))).Forall fun op => op.fresh = ∅ := by
  simp only [List.Forall]; repeat' constructor
/-- The operations of this stretch write the listed buffers only. -/
theorem write0Ops_writes : (write0Ops : List (HloOp τ sig (Elt F))).Forall fun op => op.writes ⊆ (write0OpsW.map (Proc.devRef (τ := τ) .tc)).toFinset :=
  StableHlo.forall_writes_sub_of_map rfl

/-- Loop 0: the counter is raised, and counter, state and array of states are carried over. -/
abbrev carry0Ops : List (HloOp τ sig (Elt F)) :=
  [ StableHlo.nullary main_while0b_c_7 (constantI S_ 32 1#32),
    StableHlo.binary main_v9_3 main_while0b_c_7 main_while0b_v29 (addi : (⟨S_, .i32⟩ : BufTy).Contents (Elt F) → (⟨S_, .i32⟩ : BufTy).Contents (Elt F) → (⟨S_, .i32⟩ : BufTy).Contents (Elt F)),
    StableHlo.unary main_while0b_v29 main_v9_3 id,
    StableHlo.unary main_while0b_v27 main_v9_4 id,
    StableHlo.unary main_while0b_v28 main_v9_5 id ]

/-- The arrays those write. -/
abbrev carry0OpsW : List (Ref sig .tc) := [main_while0b_c_7, main_while0b_v29, main_v9_3, main_v9_4, main_v9_5]

/-- The operations of this stretch work on declared buffers only. -/
theorem carry0Ops_sub : (carry0Ops : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The operations of this stretch draw no fresh buffers. -/
theorem carry0Ops_fresh : (carry0Ops : List (HloOp τ sig (Elt F))).Forall fun op => op.fresh = ∅ := by
  simp only [List.Forall]; repeat' constructor
/-- The operations of this stretch write the listed buffers only. -/
theorem carry0Ops_writes : (carry0Ops : List (HloOp τ sig (Elt F))).Forall fun op => op.writes ⊆ (carry0OpsW.map (Proc.devRef (τ := τ) .tc)).toFinset :=
  StableHlo.forall_writes_sub_of_map rfl

/-- The stretches of one trip of the first loop. -/
abbrev body0 : List (List (HloOp τ sig (Elt F))) := [read0Ops, step0Ops, write0Ops, carry0Ops]
/-- One trip of the first loop is plain operations. -/
theorem body0_plain : StableHlo.Plain (body0 (F := F)) :=
  .cons read0Ops_sub (.cons step0Ops_sub (.cons write0Ops_sub (.cons carry0Ops_sub .nil
    (List.forall_iff_forall_mem.mp carry0Ops_fresh)) (List.forall_iff_forall_mem.mp write0Ops_fresh))
    (List.forall_iff_forall_mem.mp step0Ops_fresh)) (List.forall_iff_forall_mem.mp read0Ops_fresh)
/-- The loop's body is those four stretches. -/
theorem body0_eq : main_while0_body (F := F) = Pipeline.chain (body0.map fun ops => (StableHlo.seq ops : Prog _ PUnit)) := by chain_rfl

/-- Loop 1: the condition's two operations. -/
abbrev cond1Ops : List (HloOp τ sig (Elt F)) :=
  [ StableHlo.nullary main_while1c_c_7 (constantI S_ 32 8192#32),
    StableHlo.binary main_v17_3 main_while1c_c_7 main_while1c_v21 (cmpi .slt) ]

/-- The arrays those write. -/
abbrev cond1OpsW : List (Ref sig .tc) := [main_while1c_c_7, main_while1c_v21]

/-- The operations of this stretch work on declared buffers only. -/
theorem cond1Ops_sub : (cond1Ops : List (HloOp τ sig (Elt F))).Forall fun op => op.bufs ⊆ StableHlo.tcRefs τ sig :=
  ⟨StableHlo.nullary_bufs_sub .., StableHlo.binary_bufs_sub ..⟩
/-- The operations of this stretch draw no fresh buffers. -/
theorem cond1Ops_fresh : (cond1Ops : List (HloOp τ sig (Elt F))).Forall fun op => op.fresh = ∅ := by
  simp only [List.Forall]; repeat' constructor
/-- The operations of this stretch write the listed buffers only. -/
theorem cond1Ops_writes : (cond1Ops : List (HloOp τ sig (Elt F))).Forall fun op => op.writes ⊆ (cond1OpsW.map (Proc.devRef (τ := τ) .tc)).toFinset :=
  StableHlo.forall_writes_sub_of_map rfl

/-- Loop 1: the step's row of the input projection is read. -/
abbrev read1Ops : List (HloOp τ sig (Elt F)) :=
  [ StableHlo.nullary main_while1b_call2_c (constantI S_ 32 0#32),
    StableHlo.nullary main_while1b_call2_c_0 (constantI S_ 32 0#32),
    StableHlo.TRef.unaryIndexed (.of main_v17_0 : StableHlo.TRef sig ⟨S8192x1x2048, .f32⟩) ![(.of main_v17_3 : StableHlo.TRef sig ⟨S_, .i32⟩), main_while1b_call2.c, main_while1b_call2.c_0] main_while1b_call2.v0 (fun x i => Host.dynamicSlice S1x1x2048 x (fun k => (i k (Shape.Idx.first h_S_)).toInt) sliceFits_S8192x1x2048_S1x1x2048),
    StableHlo.reshape main_while1b_call2_v0 main_while1b_v21 (rfl : (.f32 : EltTy) = .f32) shapeCasts_S1x1x2048_S1x2048 ]

/-- The arrays those write. -/
abbrev read1OpsW : List (Ref sig .tc) := [main_while1b_call2_c, main_while1b_call2_c_0, main_while1b_call2_v0, main_while1b_v21]

/-- The operations of this stretch work on declared buffers only. -/
theorem read1Ops_sub : (read1Ops : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- The operations of this stretch draw no fresh buffers. -/
theorem read1Ops_fresh : (read1Ops : List (HloOp τ sig (Elt F))).Forall fun op => op.fresh = ∅ := by
  simp only [List.Forall]; repeat' constructor
/-- The operations of this stretch write the listed buffers only. -/
theorem read1Ops_writes : (read1Ops : List (HloOp τ sig (Elt F))).Forall fun op => op.writes ⊆ (read1OpsW.map (Proc.devRef (τ := τ) .tc)).toFinset :=
  StableHlo.forall_writes_sub_of_map rfl

/-- Loop 1: the next state is computed. -/
abbrev step1Ops : List (HloOp τ sig (Elt F)) :=
  [ StableHlo.unary main_v17_1 main_while1b_v22 ((transpose S2048x2048 [1, 0] · transposes_S2048x2048_S2048x2048_1_0) : (⟨S2048x2048, .f32⟩ : BufTy).Contents (Elt F) → (⟨S2048x2048, .f32⟩ : BufTy).Contents (Elt F)),
    StableHlo.binary main_v17_4 main_while1b_v22 main_while1b_v23 ((fun l r => Host.dotGeneral dot_S1x2048_S2048x2048_S1x2048_1_0_0_1_n_n none l r) : (⟨S1x2048, .f32⟩ : BufTy).Contents (Elt F) → (⟨S2048x2048, .f32⟩ : BufTy).Contents (Elt F) → (⟨S1x2048, .f32⟩ : BufTy).Contents (Elt F)),
    StableHlo.binary main_while1b_v21 main_while1b_v23 main_while1b_v24 (addf : (⟨S1x2048, .f32⟩ : BufTy).Contents (Elt F) → (⟨S1x2048, .f32⟩ : BufTy).Contents (Elt F) → (⟨S1x2048, .f32⟩ : BufTy).Contents (Elt F)),
    StableHlo.unary main_v17_2 main_while1b_v25 (broadcastInDim S1x2048 ![1] bcast_S2048_S1x2048_1 : (⟨S2048, .f32⟩ : BufTy).Contents (Elt F) → (⟨S1x2048, .f32⟩ : BufTy).Contents (Elt F)),
    StableHlo.binary main_while1b_v24 main_while1b_v25 main_while1b_v26 (addf : (⟨S1x2048, .f32⟩ : BufTy).Contents (Elt F) → (⟨S1x2048, .f32⟩ : BufTy).Contents (Elt F) → (⟨S1x2048, .f32⟩ : BufTy).Contents (Elt F)),
    StableHlo.unary main_while1b_v26 main_while1b_v27 (Host.tanh : (⟨S1x2048, .f32⟩ : BufTy).Contents (Elt F) → (⟨S1x2048, .f32⟩ : BufTy).Contents (Elt F)) ]

/-- The arrays those write. -/
abbrev step1OpsW : List (Ref sig .tc) := [main_while1b_v22, main_while1b_v23, main_while1b_v24, main_while1b_v25, main_while1b_v26, main_while1b_v27]

/-- The operations of this stretch work on declared buffers only. -/
theorem step1Ops_sub : (step1Ops : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.binary_bufs_sub .., StableHlo.unary_bufs_sub ..⟩
/-- The operations of this stretch draw no fresh buffers. -/
theorem step1Ops_fresh : (step1Ops : List (HloOp τ sig (Elt F))).Forall fun op => op.fresh = ∅ := by
  simp only [List.Forall]; repeat' constructor
/-- The operations of this stretch write the listed buffers only. -/
theorem step1Ops_writes : (step1Ops : List (HloOp τ sig (Elt F))).Forall fun op => op.writes ⊆ (step1OpsW.map (Proc.devRef (τ := τ) .tc)).toFinset :=
  StableHlo.forall_writes_sub_of_map rfl

/-- Loop 1: the next state is written into the array of states. -/
abbrev write1Ops : List (HloOp τ sig (Elt F)) :=
  [ StableHlo.unary main_while1b_v27 main_while1b_call3_v0 (broadcastInDim S1x1x2048 ![1, 2] bcast_S1x2048_S1x1x2048_1_2),
    StableHlo.nullary main_while1b_call3_c (constantI S_ 32 0#32),
    StableHlo.nullary main_while1b_call3_c_0 (constantI S_ 32 0#32),
    StableHlo.TRef.binaryIndexed (.of main_v17_5 : StableHlo.TRef sig ⟨S8192x1x2048, .f32⟩) main_while1b_call3.v0 ![(.of main_v17_3 : StableHlo.TRef sig ⟨S_, .i32⟩), main_while1b_call3.c, main_while1b_call3.c_0] main_while1b_call3.v1 (fun x u i => Host.dynamicUpdateSlice x u (fun k => (i k (Shape.Idx.first h_S_)).toInt) updateFits_S8192x1x2048_S1x1x2048) ]

/-- The arrays those write. -/
abbrev write1OpsW : List (Ref sig .tc) := [main_while1b_call3_v0, main_while1b_call3_c, main_while1b_call3_c_0, main_while1b_v28]

/-- The operations of this stretch work on declared buffers only. -/
theorem write1Ops_sub : (write1Ops : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- The operations of this stretch draw no fresh buffers. -/
theorem write1Ops_fresh : (write1Ops : List (HloOp τ sig (Elt F))).Forall fun op => op.fresh = ∅ := by
  simp only [List.Forall]; repeat' constructor
/-- The operations of this stretch write the listed buffers only. -/
theorem write1Ops_writes : (write1Ops : List (HloOp τ sig (Elt F))).Forall fun op => op.writes ⊆ (write1OpsW.map (Proc.devRef (τ := τ) .tc)).toFinset :=
  StableHlo.forall_writes_sub_of_map rfl

/-- Loop 1: the counter is raised, and counter, state and array of states are carried over. -/
abbrev carry1Ops : List (HloOp τ sig (Elt F)) :=
  [ StableHlo.nullary main_while1b_c_7 (constantI S_ 32 1#32),
    StableHlo.binary main_v17_3 main_while1b_c_7 main_while1b_v29 (addi : (⟨S_, .i32⟩ : BufTy).Contents (Elt F) → (⟨S_, .i32⟩ : BufTy).Contents (Elt F) → (⟨S_, .i32⟩ : BufTy).Contents (Elt F)),
    StableHlo.unary main_while1b_v29 main_v17_3 id,
    StableHlo.unary main_while1b_v27 main_v17_4 id,
    StableHlo.unary main_while1b_v28 main_v17_5 id ]

/-- The arrays those write. -/
abbrev carry1OpsW : List (Ref sig .tc) := [main_while1b_c_7, main_while1b_v29, main_v17_3, main_v17_4, main_v17_5]

/-- The operations of this stretch work on declared buffers only. -/
theorem carry1Ops_sub : (carry1Ops : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- The operations of this stretch draw no fresh buffers. -/
theorem carry1Ops_fresh : (carry1Ops : List (HloOp τ sig (Elt F))).Forall fun op => op.fresh = ∅ := by
  simp only [List.Forall]; repeat' constructor
/-- The operations of this stretch write the listed buffers only. -/
theorem carry1Ops_writes : (carry1Ops : List (HloOp τ sig (Elt F))).Forall fun op => op.writes ⊆ (carry1OpsW.map (Proc.devRef (τ := τ) .tc)).toFinset :=
  StableHlo.forall_writes_sub_of_map rfl

/-- The stretches of one trip of the second loop. -/
abbrev body1 : List (List (HloOp τ sig (Elt F))) := [read1Ops, step1Ops, write1Ops, carry1Ops]
/-- One trip of the second loop is plain operations. -/
theorem body1_plain : StableHlo.Plain (body1 (F := F)) :=
  .cons read1Ops_sub (.cons step1Ops_sub (.cons write1Ops_sub (.cons carry1Ops_sub .nil
    (List.forall_iff_forall_mem.mp carry1Ops_fresh)) (List.forall_iff_forall_mem.mp write1Ops_fresh))
    (List.forall_iff_forall_mem.mp step1Ops_fresh)) (List.forall_iff_forall_mem.mp read1Ops_fresh)
/-- The loop's body is those four stretches. -/
theorem body1_eq : main_while1_body (F := F) = Pipeline.chain (body1.map fun ops => (StableHlo.seq ops : Prog _ PUnit)) := by chain_rfl

/-- The whole reference as its three stretches with the two loops between them. -/
theorem main_eq (c : Dev nD) : main (F := F) c = Pipeline.chain
    [StableHlo.seq preOps, HostLoop.enter 0, StableHlo.seq midOps, HostLoop.enter 1, StableHlo.seq postOps] := by chain_rfl

end Cert.ReferenceIdeal.Hand
-- ==== Proof.RefVals.lean ====
/-
  What the reference's two loops compute: each trip reads the step's row of the input projection, computes the next state
  from it and the state carried over, and writes the next state into the array of states at the counter.
-/
module

public import proofs.«01_k».proof.Proof.RefOps
public import Idealize.ShloMosaic.Lib.DynamicIndex
public import Idealize.ShloMosaic.Lib.WordCmp
public import Idealize.ShloMosaic.Lib.PointwiseCore
public import Idealize.ShloMosaic.Lib.StableHlo.ReadAt

@[expose] public section

noncomputable section

namespace Cert.ReferenceIdeal.Hand

open Cert.ReferenceIdeal Cert.ReferenceIdeal.Gen
open Idealize.ShloMosaic Idealize.ShloMosaic.TcCoe
open Idealize.SL Idealize.SL.RA Idealize.SL.BI Idealize.SL.Sem
open Idealize.ShloMosaic.StableHlo (after afterL atTrip after_of_writes_sub afterL_cons afterL_nil)
open Cert.KernelIdeal.Hand (chain)

variable {F : FTy → Type} [FloatOps F]

/-- Row `k` of the input projection. -/
def rowAt (P : Vec F S8192x1x2048 .f32) (k : ℕ) : Vec F S1x2048 .f32 :=
  fun j => P (ValueIdx.ix3 (Fin.ofNat 8192 k) (0 : Fin 1) (j 1))

/-- One recurrent step of the reference: `tanh (row + state * W^T + b)`. -/
def rstep (W : Vec F S2048x2048 .f32) (b : Vec F S2048 .f32) (xr h : Vec F S1x2048 .f32) : Vec F S1x2048 .f32 :=
  Host.tanh (addf (addf xr (Host.dotGeneral dot_S1x2048_S2048x2048_S1x2048_1_0_0_1_n_n none h
    (transpose S2048x2048 [1, 0] W transposes_S2048x2048_S2048x2048_1_0))) (broadcastInDim S1x2048 ![1] bcast_S2048_S1x2048_1 b))

/-- The state after `n` steps of the reference from `h`. -/
def rstate (P : Vec F S8192x1x2048 .f32) (W : Vec F S2048x2048 .f32) (b : Vec F S2048 .f32) (h : Vec F S1x2048 .f32) (n : ℕ) :
    Vec F S1x2048 .f32 := chain (fun k => rstep W b (rowAt P k)) h n

/-- The row that a slice of one row at the counter reads. -/
theorem row_read (P : Vec F S8192x1x2048 .f32) (start : Fin 3 → Int) (k : ℕ) (hk : k < 8192) (h0 : start 0 = k) (h1 : start 1 = 0)
    (h2 : start 2 = 0) :
    shapeCast S1x2048 (Host.dynamicSlice S1x1x2048 P start sliceFits_S8192x1x2048_S1x1x2048) shapeCasts_S1x1x2048_S1x2048 = rowAt P k := by
  have hs : S8192x1x2048.Slices (![k, 0, 0] : Fin 3 → ℕ) S1x1x2048 := ⟨rfl, fun a => by
    fin_cases a
    · show k + 1 ≤ 8192; omega
    · show 0 + 1 ≤ 1; omega
    · show 0 + 2048 ≤ 2048; omega⟩
  rw [WordCmp.dynamicSlice_eq_extract S1x1x2048 P start sliceFits_S8192x1x2048_S1x1x2048 ![k, 0, 0] hs (by
    intro a
    fin_cases a
    · exact h0
    · exact h1
    · exact h2)]
  funext j
  rw [ValueIdx.eq_ix2 j]
  unfold rowAt
  pointwise
  refine congrArg (fun t => P (ValueIdx.ix3 t (0 : Fin 1) _)) (Fin.ext ?_)
  show k = k % 8192
  rw [Nat.mod_eq_of_lt hk]

/-- The array of states after one row is written at the counter. -/
theorem row_write (Q : Vec F S8192x1x2048 .f32) (u : Vec F S1x2048 .f32) (start : Fin 3 → Int) (k : ℕ) (hk : k < 8192) (h0 : start 0 = k)
    (h1 : start 1 = 0) (h2 : start 2 = 0) (i : S8192x1x2048.Idx) :
    Host.dynamicUpdateSlice Q (broadcastInDim S1x1x2048 ![1, 2] bcast_S1x2048_S1x1x2048_1_2 u) start updateFits_S8192x1x2048_S1x1x2048 i
      = if (i 0).val = k then u (ValueIdx.ix2 (0 : Fin 1) (i 2)) else Q i := by
  have hs : S8192x1x2048.Slices (![k, 0, 0] : Fin 3 → ℕ) S1x1x2048 := ⟨rfl, fun a => by
    fin_cases a
    · show k + 1 ≤ 8192; omega
    · show 0 + 1 ≤ 1; omega
    · show 0 + 2048 ≤ 2048; omega⟩
  rw [WordCmp.dynamicUpdateSlice_eq_update Q _ start updateFits_S8192x1x2048_S1x1x2048 ![k, 0, 0] hs (by
    intro a
    fin_cases a
    · exact h0
    · exact h1
    · exact h2)]
  unfold updateSlice
  by_cases h : (i 0).val = k
  · rw [if_pos h, dif_pos (by
      intro a
      have := (i a).isLt
      fin_cases a
      · show k ≤ (i 0).val ∧ (i 0).val < k + 1; omega
      · show 0 ≤ (i 1).val ∧ (i 1).val < 0 + 1; exact ⟨Nat.zero_le _, this⟩
      · show 0 ≤ (i 2).val ∧ (i 2).val < 0 + 2048; exact ⟨Nat.zero_le _, this⟩)]
    unfold broadcastInDim
    refine congrArg u (funext fun a => ?_)
    fin_cases a
    · rfl
    · rfl
  · rw [if_neg h, dif_neg (by
      intro hin
      have h' : k ≤ (i 0).val ∧ (i 0).val < k + 1 := hin 0
      omega)]

/-! ## Loop 0 -/

/-- The row of the input projection that trip `k` reads. -/
theorem read0_val (X : Valuation τ sig (Elt F)) (k : ℕ) (hk : k < 8192)
    (hc : X (Proc.devRef .tc main_v9_3) = fun _ => BitVec.ofNat 32 k) :
    after read0Ops X (Proc.devRef .tc main_while0b_v21) = rowAt (X (Proc.devRef .tc main_v9_0)) k := by
  after_results
  have e0 : after [StableHlo.nullary main_while0b_call0_c (constantI S_ 32 0#32), StableHlo.nullary main_while0b_call0_c_0 (constantI S_ 32 0#32)]
      X (Proc.devRef .tc main_v9_3) = fun _ => BitVec.ofNat 32 k := by
    after_results
    exact hc
  have e1 : after [StableHlo.nullary main_while0b_call0_c (constantI S_ 32 0#32), StableHlo.nullary main_while0b_call0_c_0 (constantI S_ 32 0#32)]
      X (Proc.devRef .tc main_while0b_call0_c) = fun _ => 0#32 := by
    after_results
    rfl
  have e2 : after [StableHlo.nullary main_while0b_call0_c (constantI S_ 32 0#32), StableHlo.nullary main_while0b_call0_c_0 (constantI S_ 32 0#32)]
      X (Proc.devRef .tc main_while0b_call0_c_0) = fun _ => 0#32 := by
    after_results
    rfl
  refine row_read _ _ k hk ?_ ?_ ?_
  · exact (congrArg BitVec.toInt (congrFun e0 _)).trans (toInt_ofNat_of_lt (by omega))
  · exact congrArg BitVec.toInt (congrFun e1 _)
  · exact congrArg BitVec.toInt (congrFun e2 _)

/-- The next state. -/
theorem step0_val (X : Valuation τ sig (Elt F)) :
    after step0Ops X (Proc.devRef .tc main_while0b_v27) = rstep (X (Proc.devRef .tc main_v9_1)) (X (Proc.devRef .tc main_v9_2))
      (X (Proc.devRef .tc main_while0b_v21)) (X (Proc.devRef .tc main_v9_4)) := by
  after_results
  rfl

/-- The array of states after trip `k` has written into it. -/
theorem write0_val (X : Valuation τ sig (Elt F)) (k : ℕ) (hk : k < 8192)
    (hc : X (Proc.devRef .tc main_v9_3) = fun _ => BitVec.ofNat 32 k) (i : S8192x1x2048.Idx) :
    (after write0Ops X (Proc.devRef .tc main_while0b_v28) : Vec F S8192x1x2048 .f32) i
      = if (i 0).val = k then (X (Proc.devRef .tc main_while0b_v27) : Vec F S1x2048 .f32) (ValueIdx.ix2 (0 : Fin 1) (i 2))
        else (X (Proc.devRef .tc main_v9_5) : Vec F S8192x1x2048 .f32) i := by
  after_results
  have e0 : after [StableHlo.unary main_while0b_v27 main_while0b_call1_v0 (broadcastInDim S1x1x2048 ![1, 2] bcast_S1x2048_S1x1x2048_1_2),
      StableHlo.nullary main_while0b_call1_c (constantI S_ 32 0#32), StableHlo.nullary main_while0b_call1_c_0 (constantI S_ 32 0#32)]
      X (Proc.devRef .tc main_v9_3) = fun _ => BitVec.ofNat 32 k := by
    after_results
    exact hc
  have e1 : after [StableHlo.unary main_while0b_v27 main_while0b_call1_v0 (broadcastInDim S1x1x2048 ![1, 2] bcast_S1x2048_S1x1x2048_1_2),
      StableHlo.nullary main_while0b_call1_c (constantI S_ 32 0#32), StableHlo.nullary main_while0b_call1_c_0 (constantI S_ 32 0#32)]
      X (Proc.devRef .tc main_while0b_call1_c) = fun _ => 0#32 := by
    after_results
    rfl
  have e2 : after [StableHlo.unary main_while0b_v27 main_while0b_call1_v0 (broadcastInDim S1x1x2048 ![1, 2] bcast_S1x2048_S1x1x2048_1_2),
      StableHlo.nullary main_while0b_call1_c (constantI S_ 32 0#32), StableHlo.nullary main_while0b_call1_c_0 (constantI S_ 32 0#32)]
      X (Proc.devRef .tc main_while0b_call1_c_0) = fun _ => 0#32 := by
    after_results
    rfl
  refine row_write _ _ _ k hk ?_ ?_ ?_ i
  · exact (congrArg BitVec.toInt (congrFun e0 _)).trans (toInt_ofNat_of_lt (by omega))
  · exact congrArg BitVec.toInt (congrFun e1 _)
  · exact congrArg BitVec.toInt (congrFun e2 _)

/-- The end of a trip: the counter goes up by one, and the new state and the written states are carried on. -/
theorem carry0_val (X : Valuation τ sig (Elt F)) :
    after carry0Ops X (Proc.devRef .tc main_v9_3) = addi (X (Proc.devRef .tc main_v9_3)) (constantI S_ 32 1#32)
      ∧ after carry0Ops X (Proc.devRef .tc main_v9_4) = X (Proc.devRef .tc main_while0b_v27)
      ∧ after carry0Ops X (Proc.devRef .tc main_v9_5) = X (Proc.devRef .tc main_while0b_v28) := by
  refine ⟨?_, ?_, ?_⟩
  · after_results; rfl
  · after_results; rfl
  · after_results; rfl

/-! ## Loop 1 -/

/-- The row of the input projection that trip `k` reads. -/
theorem read1_val (X : Valuation τ sig (Elt F)) (k : ℕ) (hk : k < 8192)
    (hc : X (Proc.devRef .tc main_v17_3) = fun _ => BitVec.ofNat 32 k) :
    after read1Ops X (Proc.devRef .tc main_while1b_v21) = rowAt (X (Proc.devRef .tc main_v17_0)) k := by
  after_results
  have e0 : after [StableHlo.nullary main_while1b_call2_c (constantI S_ 32 0#32), StableHlo.nullary main_while1b_call2_c_0 (constantI S_ 32 0#32)]
      X (Proc.devRef .tc main_v17_3) = fun _ => BitVec.ofNat 32 k := by
    after_results
    exact hc
  have e1 : after [StableHlo.nullary main_while1b_call2_c (constantI S_ 32 0#32), StableHlo.nullary main_while1b_call2_c_0 (constantI S_ 32 0#32)]
      X (Proc.devRef .tc main_while1b_call2_c) = fun _ => 0#32 := by
    after_results
    rfl
  have e2 : after [StableHlo.nullary main_while1b_call2_c (constantI S_ 32 0#32), StableHlo.nullary main_while1b_call2_c_0 (constantI S_ 32 0#32)]
      X (Proc.devRef .tc main_while1b_call2_c_0) = fun _ => 0#32 := by
    after_results
    rfl
  refine row_read _ _ k hk ?_ ?_ ?_
  · exact (congrArg BitVec.toInt (congrFun e0 _)).trans (toInt_ofNat_of_lt (by omega))
  · exact congrArg BitVec.toInt (congrFun e1 _)
  · exact congrArg BitVec.toInt (congrFun e2 _)

/-- The next state. -/
theorem step1_val (X : Valuation τ sig (Elt F)) :
    after step1Ops X (Proc.devRef .tc main_while1b_v27) = rstep (X (Proc.devRef .tc main_v17_1)) (X (Proc.devRef .tc main_v17_2))
      (X (Proc.devRef .tc main_while1b_v21)) (X (Proc.devRef .tc main_v17_4)) := by
  after_results
  rfl

/-- The array of states after trip `k` has written into it. -/
theorem write1_val (X : Valuation τ sig (Elt F)) (k : ℕ) (hk : k < 8192)
    (hc : X (Proc.devRef .tc main_v17_3) = fun _ => BitVec.ofNat 32 k) (i : S8192x1x2048.Idx) :
    (after write1Ops X (Proc.devRef .tc main_while1b_v28) : Vec F S8192x1x2048 .f32) i
      = if (i 0).val = k then (X (Proc.devRef .tc main_while1b_v27) : Vec F S1x2048 .f32) (ValueIdx.ix2 (0 : Fin 1) (i 2))
        else (X (Proc.devRef .tc main_v17_5) : Vec F S8192x1x2048 .f32) i := by
  after_results
  have e0 : after [StableHlo.unary main_while1b_v27 main_while1b_call3_v0 (broadcastInDim S1x1x2048 ![1, 2] bcast_S1x2048_S1x1x2048_1_2),
      StableHlo.nullary main_while1b_call3_c (constantI S_ 32 0#32), StableHlo.nullary main_while1b_call3_c_0 (constantI S_ 32 0#32)]
      X (Proc.devRef .tc main_v17_3) = fun _ => BitVec.ofNat 32 k := by
    after_results
    exact hc
  have e1 : after [StableHlo.unary main_while1b_v27 main_while1b_call3_v0 (broadcastInDim S1x1x2048 ![1, 2] bcast_S1x2048_S1x1x2048_1_2),
      StableHlo.nullary main_while1b_call3_c (constantI S_ 32 0#32), StableHlo.nullary main_while1b_call3_c_0 (constantI S_ 32 0#32)]
      X (Proc.devRef .tc main_while1b_call3_c) = fun _ => 0#32 := by
    after_results
    rfl
  have e2 : after [StableHlo.unary main_while1b_v27 main_while1b_call3_v0 (broadcastInDim S1x1x2048 ![1, 2] bcast_S1x2048_S1x1x2048_1_2),
      StableHlo.nullary main_while1b_call3_c (constantI S_ 32 0#32), StableHlo.nullary main_while1b_call3_c_0 (constantI S_ 32 0#32)]
      X (Proc.devRef .tc main_while1b_call3_c_0) = fun _ => 0#32 := by
    after_results
    rfl
  refine row_write _ _ _ k hk ?_ ?_ ?_ i
  · exact (congrArg BitVec.toInt (congrFun e0 _)).trans (toInt_ofNat_of_lt (by omega))
  · exact congrArg BitVec.toInt (congrFun e1 _)
  · exact congrArg BitVec.toInt (congrFun e2 _)

/-- The end of a trip: the counter goes up by one, and the new state and the written states are carried on. -/
theorem carry1_val (X : Valuation τ sig (Elt F)) :
    after carry1Ops X (Proc.devRef .tc main_v17_3) = addi (X (Proc.devRef .tc main_v17_3)) (constantI S_ 32 1#32)
      ∧ after carry1Ops X (Proc.devRef .tc main_v17_4) = X (Proc.devRef .tc main_while1b_v27)
      ∧ after carry1Ops X (Proc.devRef .tc main_v17_5) = X (Proc.devRef .tc main_while1b_v28) := by
  refine ⟨?_, ?_, ?_⟩
  · after_results; rfl
  · after_results; rfl
  · after_results; rfl

end Cert.ReferenceIdeal.Hand
-- ==== Proof.RefTrips.lean ====
/-
  The reference's two loops over their 8192 trips: what the counter, the state and the array of states hold before each trip.
-/
module

public import proofs.«01_k».proof.Proof.RefVals

@[expose] public section

noncomputable section

namespace Cert.ReferenceIdeal.Hand

open Cert.ReferenceIdeal Cert.ReferenceIdeal.Gen
open Idealize.ShloMosaic Idealize.ShloMosaic.TcCoe
open Idealize.ShloMosaic.StableHlo (after afterL atTrip after_of_writes_sub afterL_cons afterL_nil)
open Cert.KernelIdeal.Hand (chain)

variable {F : FTy → Type} [FloatOps F]

/-! ## Loop 0 -/

/-- The arrays that a trip of loop 0 writes. -/
abbrev trip0W : List (Ref sig .tc) := cond0OpsW ++ read0OpsW ++ step0OpsW ++ write0OpsW ++ carry0OpsW

/-- One trip of loop 0: the condition, then the body. -/
abbrev trip0 (X : Valuation τ sig (Elt F)) : Valuation τ sig (Elt F) := afterL body0 (after cond0Ops X)

/-- A trip keeps what it does not write. -/
theorem trip0_kept (X : Valuation τ sig (Elt F)) {r : Ref sig .tc} (h : r ∉ trip0W) :
    trip0 X (Proc.devRef .tc r) = X (Proc.devRef .tc r) := by
  have h' : (((r ∉ cond0OpsW ∧ r ∉ read0OpsW) ∧ r ∉ step0OpsW) ∧ r ∉ write0OpsW) ∧ r ∉ carry0OpsW := by
    simpa only [trip0W, List.mem_append, not_or] using h
  obtain ⟨⟨⟨⟨h1, h2⟩, h3⟩, h4⟩, h5⟩ := h'
  unfold trip0
  simp only [afterL_cons, afterL_nil]
  rw [after_of_writes_sub carry0Ops _ carry0Ops_writes h5, after_of_writes_sub write0Ops _ write0Ops_writes h4,
    after_of_writes_sub step0Ops _ step0Ops_writes h3, after_of_writes_sub read0Ops _ read0Ops_writes h2,
    after_of_writes_sub cond0Ops _ cond0Ops_writes h1]

/-- Trip `k` of loop 0: the counter goes up by one, the state makes one step, and the array of states takes the new state as its row `k`. -/
theorem trip0_val (X : Valuation τ sig (Elt F)) (k : ℕ) (hk : k < 8192)
    (hc : X (Proc.devRef .tc main_v9_3) = fun _ => BitVec.ofNat 32 k) :
    trip0 X (Proc.devRef .tc main_v9_3) = addi (X (Proc.devRef .tc main_v9_3)) (constantI S_ 32 1#32)
      ∧ trip0 X (Proc.devRef .tc main_v9_4) = rstep (X (Proc.devRef .tc main_v9_1)) (X (Proc.devRef .tc main_v9_2))
          (rowAt (X (Proc.devRef .tc main_v9_0)) k) (X (Proc.devRef .tc main_v9_4))
      ∧ ∀ i : S8192x1x2048.Idx, (trip0 X (Proc.devRef .tc main_v9_5) : Vec F S8192x1x2048 .f32) i
          = if (i 0).val = k then (rstep (X (Proc.devRef .tc main_v9_1)) (X (Proc.devRef .tc main_v9_2))
              (rowAt (X (Proc.devRef .tc main_v9_0)) k) (X (Proc.devRef .tc main_v9_4)) : Vec F S1x2048 .f32) (ValueIdx.ix2 (0 : Fin 1) (i 2))
            else (X (Proc.devRef .tc main_v9_5) : Vec F S8192x1x2048 .f32) i := by
  unfold trip0
  simp only [afterL_cons, afterL_nil]
  have kA {r : Ref sig .tc} (h : r ∉ cond0OpsW) := after_of_writes_sub cond0Ops X cond0Ops_writes h
  have hA := kA (r := main_v9_3) (by decide)
  have a0 := kA (r := main_v9_0) (by decide)
  have a1 := kA (r := main_v9_1) (by decide)
  have a2 := kA (r := main_v9_2) (by decide)
  have a4 := kA (r := main_v9_4) (by decide)
  have a5 := kA (r := main_v9_5) (by decide)
  generalize after cond0Ops X = A at *
  have hB := read0_val A k hk (hA.trans hc)
  have kB {r : Ref sig .tc} (h : r ∉ read0OpsW) := after_of_writes_sub read0Ops A read0Ops_writes h
  have b1 := (kB (r := main_v9_1) (by decide)).trans a1
  have b2 := (kB (r := main_v9_2) (by decide)).trans a2
  have b3 := (kB (r := main_v9_3) (by decide)).trans hA
  have b4 := (kB (r := main_v9_4) (by decide)).trans a4
  have b5 := (kB (r := main_v9_5) (by decide)).trans a5
  rw [a0] at hB
  generalize after read0Ops A = B at *
  have hC := step0_val B
  have kC {r : Ref sig .tc} (h : r ∉ step0OpsW) := after_of_writes_sub step0Ops B step0Ops_writes h
  have c3 := (kC (r := main_v9_3) (by decide)).trans b3
  have c5 := (kC (r := main_v9_5) (by decide)).trans b5
  rw [b1, b2, b4, hB] at hC
  generalize after step0Ops B = C at *
  have hD := write0_val C k hk (c3.trans hc)
  have kD {r : Ref sig .tc} (h : r ∉ write0OpsW) := after_of_writes_sub write0Ops C write0Ops_writes h
  have d3 := (kD (r := main_v9_3) (by decide)).trans c3
  have d27 := (kD (r := main_while0b_v27) (by decide)).trans hC
  rw [hC, c5] at hD
  generalize after write0Ops C = D at *
  obtain ⟨e3, e4, e5⟩ := carry0_val D
  refine ⟨e3.trans (by rw [d3]), e4.trans d27, fun i => ?_⟩
  rw [e5]
  exact hD i

/-- Before trip `k` of loop 0 what its trips do not write is as at its entry. -/
theorem loop0_kept (W : Dev nD → Valuation τ sig (Elt F)) (c : Dev nD) {r : Ref sig .tc} (h : r ∉ trip0W) (k : ℕ) :
    atTrip cond0Ops body0 W k c (Proc.devRef .tc r) = W c (Proc.devRef .tc r) := by
  induction k with
  | zero => rfl
  | succ k ih => exact (trip0_kept (atTrip cond0Ops body0 W k c) h).trans ih

/-- Before trip `k` of loop 0, entered with its counter at 0: the counter holds `k`, the state is the one after `k` steps,
    and each row of the array of states below `k` is the state after that row's step. -/
theorem loop0_val (W : Dev nD → Valuation τ sig (Elt F)) (c : Dev nD)
    (h0 : W c (Proc.devRef .tc main_v9_3) = fun _ => (0#32 : BitVec 32)) (k : ℕ) (hk : k ≤ 8192) :
    atTrip cond0Ops body0 W k c (Proc.devRef .tc main_v9_3) = (fun _ => BitVec.ofNat 32 k)
      ∧ atTrip cond0Ops body0 W k c (Proc.devRef .tc main_v9_4) = rstate (W c (Proc.devRef .tc main_v9_0)) (W c (Proc.devRef .tc main_v9_1))
          (W c (Proc.devRef .tc main_v9_2)) (W c (Proc.devRef .tc main_v9_4)) k
      ∧ ∀ i : S8192x1x2048.Idx, (i 0).val < k → (atTrip cond0Ops body0 W k c (Proc.devRef .tc main_v9_5) : Vec F S8192x1x2048 .f32) i
          = (rstate (W c (Proc.devRef .tc main_v9_0)) (W c (Proc.devRef .tc main_v9_1)) (W c (Proc.devRef .tc main_v9_2))
              (W c (Proc.devRef .tc main_v9_4)) ((i 0).val + 1) : Vec F S1x2048 .f32) (ValueIdx.ix2 (0 : Fin 1) (i 2)) := by
  induction k with
  | zero => exact ⟨h0, rfl, fun i hi => absurd hi (Nat.not_lt_zero _)⟩
  | succ k ih =>
    obtain ⟨i3, i4, i5⟩ := ih (by omega)
    obtain ⟨t3, t4, t5⟩ := trip0_val (atTrip cond0Ops body0 W k c) k (by omega) i3
    rw [loop0_kept W c (r := main_v9_0) (by decide) k, loop0_kept W c (r := main_v9_1) (by decide) k,
      loop0_kept W c (r := main_v9_2) (by decide) k, i4] at t4 t5
    refine ⟨t3.trans ?_, t4, fun i hi => (t5 i).trans ?_⟩
    · rw [i3]
      funext j
      show BitVec.ofNat 32 k + 1#32 = BitVec.ofNat 32 (k + 1)
      rw [BitVec.ofNat_add]
    · by_cases e : (i 0).val = k
      · rw [if_pos e, e]
        rfl
      · rw [if_neg e]
        exact i5 i (by omega)

/-! ## Loop 1 -/

/-- The arrays that a trip of loop 1 writes. -/
abbrev trip1W : List (Ref sig .tc) := cond1OpsW ++ read1OpsW ++ step1OpsW ++ write1OpsW ++ carry1OpsW

/-- One trip of loop 1: the condition, then the body. -/
abbrev trip1 (X : Valuation τ sig (Elt F)) : Valuation τ sig (Elt F) := afterL body1 (after cond1Ops X)

/-- A trip keeps what it does not write. -/
theorem trip1_kept (X : Valuation τ sig (Elt F)) {r : Ref sig .tc} (h : r ∉ trip1W) :
    trip1 X (Proc.devRef .tc r) = X (Proc.devRef .tc r) := by
  have h' : (((r ∉ cond1OpsW ∧ r ∉ read1OpsW) ∧ r ∉ step1OpsW) ∧ r ∉ write1OpsW) ∧ r ∉ carry1OpsW := by
    simpa only [trip1W, List.mem_append, not_or] using h
  obtain ⟨⟨⟨⟨h1, h2⟩, h3⟩, h4⟩, h5⟩ := h'
  unfold trip1
  simp only [afterL_cons, afterL_nil]
  rw [after_of_writes_sub carry1Ops _ carry1Ops_writes h5, after_of_writes_sub write1Ops _ write1Ops_writes h4,
    after_of_writes_sub step1Ops _ step1Ops_writes h3, after_of_writes_sub read1Ops _ read1Ops_writes h2,
    after_of_writes_sub cond1Ops _ cond1Ops_writes h1]

/-- Trip `k` of loop 1: the counter goes up by one, the state makes one step, and the array of states takes the new state as its row `k`. -/
theorem trip1_val (X : Valuation τ sig (Elt F)) (k : ℕ) (hk : k < 8192)
    (hc : X (Proc.devRef .tc main_v17_3) = fun _ => BitVec.ofNat 32 k) :
    trip1 X (Proc.devRef .tc main_v17_3) = addi (X (Proc.devRef .tc main_v17_3)) (constantI S_ 32 1#32)
      ∧ trip1 X (Proc.devRef .tc main_v17_4) = rstep (X (Proc.devRef .tc main_v17_1)) (X (Proc.devRef .tc main_v17_2))
          (rowAt (X (Proc.devRef .tc main_v17_0)) k) (X (Proc.devRef .tc main_v17_4))
      ∧ ∀ i : S8192x1x2048.Idx, (trip1 X (Proc.devRef .tc main_v17_5) : Vec F S8192x1x2048 .f32) i
          = if (i 0).val = k then (rstep (X (Proc.devRef .tc main_v17_1)) (X (Proc.devRef .tc main_v17_2))
              (rowAt (X (Proc.devRef .tc main_v17_0)) k) (X (Proc.devRef .tc main_v17_4)) : Vec F S1x2048 .f32) (ValueIdx.ix2 (0 : Fin 1) (i 2))
            else (X (Proc.devRef .tc main_v17_5) : Vec F S8192x1x2048 .f32) i := by
  unfold trip1
  simp only [afterL_cons, afterL_nil]
  have kA {r : Ref sig .tc} (h : r ∉ cond1OpsW) := after_of_writes_sub cond1Ops X cond1Ops_writes h
  have hA := kA (r := main_v17_3) (by decide)
  have a0 := kA (r := main_v17_0) (by decide)
  have a1 := kA (r := main_v17_1) (by decide)
  have a2 := kA (r := main_v17_2) (by decide)
  have a4 := kA (r := main_v17_4) (by decide)
  have a5 := kA (r := main_v17_5) (by decide)
  generalize after cond1Ops X = A at *
  have hB := read1_val A k hk (hA.trans hc)
  have kB {r : Ref sig .tc} (h : r ∉ read1OpsW) := after_of_writes_sub read1Ops A read1Ops_writes h
  have b1 := (kB (r := main_v17_1) (by decide)).trans a1
  have b2 := (kB (r := main_v17_2) (by decide)).trans a2
  have b3 := (kB (r := main_v17_3) (by decide)).trans hA
  have b4 := (kB (r := main_v17_4) (by decide)).trans a4
  have b5 := (kB (r := main_v17_5) (by decide)).trans a5
  rw [a0] at hB
  generalize after read1Ops A = B at *
  have hC := step1_val B
  have kC {r : Ref sig .tc} (h : r ∉ step1OpsW) := after_of_writes_sub step1Ops B step1Ops_writes h
  have c3 := (kC (r := main_v17_3) (by decide)).trans b3
  have c5 := (kC (r := main_v17_5) (by decide)).trans b5
  rw [b1, b2, b4, hB] at hC
  generalize after step1Ops B = C at *
  have hD := write1_val C k hk (c3.trans hc)
  have kD {r : Ref sig .tc} (h : r ∉ write1OpsW) := after_of_writes_sub write1Ops C write1Ops_writes h
  have d3 := (kD (r := main_v17_3) (by decide)).trans c3
  have d27 := (kD (r := main_while1b_v27) (by decide)).trans hC
  rw [hC, c5] at hD
  generalize after write1Ops C = D at *
  obtain ⟨e3, e4, e5⟩ := carry1_val D
  refine ⟨e3.trans (by rw [d3]), e4.trans d27, fun i => ?_⟩
  rw [e5]
  exact hD i

/-- Before trip `k` of loop 1 what its trips do not write is as at its entry. -/
theorem loop1_kept (W : Dev nD → Valuation τ sig (Elt F)) (c : Dev nD) {r : Ref sig .tc} (h : r ∉ trip1W) (k : ℕ) :
    atTrip cond1Ops body1 W k c (Proc.devRef .tc r) = W c (Proc.devRef .tc r) := by
  induction k with
  | zero => rfl
  | succ k ih => exact (trip1_kept (atTrip cond1Ops body1 W k c) h).trans ih

/-- Before trip `k` of loop 1, entered with its counter at 0: the counter holds `k`, the state is the one after `k` steps,
    and each row of the array of states below `k` is the state after that row's step. -/
theorem loop1_val (W : Dev nD → Valuation τ sig (Elt F)) (c : Dev nD)
    (h0 : W c (Proc.devRef .tc main_v17_3) = fun _ => (0#32 : BitVec 32)) (k : ℕ) (hk : k ≤ 8192) :
    atTrip cond1Ops body1 W k c (Proc.devRef .tc main_v17_3) = (fun _ => BitVec.ofNat 32 k)
      ∧ atTrip cond1Ops body1 W k c (Proc.devRef .tc main_v17_4) = rstate (W c (Proc.devRef .tc main_v17_0)) (W c (Proc.devRef .tc main_v17_1))
          (W c (Proc.devRef .tc main_v17_2)) (W c (Proc.devRef .tc main_v17_4)) k
      ∧ ∀ i : S8192x1x2048.Idx, (i 0).val < k → (atTrip cond1Ops body1 W k c (Proc.devRef .tc main_v17_5) : Vec F S8192x1x2048 .f32) i
          = (rstate (W c (Proc.devRef .tc main_v17_0)) (W c (Proc.devRef .tc main_v17_1)) (W c (Proc.devRef .tc main_v17_2))
              (W c (Proc.devRef .tc main_v17_4)) ((i 0).val + 1) : Vec F S1x2048 .f32) (ValueIdx.ix2 (0 : Fin 1) (i 2)) := by
  induction k with
  | zero => exact ⟨h0, rfl, fun i hi => absurd hi (Nat.not_lt_zero _)⟩
  | succ k ih =>
    obtain ⟨i3, i4, i5⟩ := ih (by omega)
    obtain ⟨t3, t4, t5⟩ := trip1_val (atTrip cond1Ops body1 W k c) k (by omega) i3
    rw [loop1_kept W c (r := main_v17_0) (by decide) k, loop1_kept W c (r := main_v17_1) (by decide) k,
      loop1_kept W c (r := main_v17_2) (by decide) k, i4] at t4 t5
    refine ⟨t3.trans ?_, t4, fun i hi => (t5 i).trans ?_⟩
    · rw [i3]
      funext j
      show BitVec.ofNat 32 k + 1#32 = BitVec.ofNat 32 (k + 1)
      rw [BitVec.ofNat_add]
    · by_cases e : (i 0).val = k
      · rw [if_pos e, e]
        rfl
      · rw [if_neg e]
        exact i5 i (by omega)

end Cert.ReferenceIdeal.Hand
-- ==== Proof.RefRun.lean ====
/-
  The run of the reference: a stretch of host operations, the first layer's loop, a stretch, the second layer's loop, a stretch.
-/
module

public import proofs.«01_k».proof.Proof.RefTrips
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)
open Cert.KernelIdeal.Hand (chain)

variable {F : FTy → Type} [FloatOps F]
variable (m : (ℓ : Loc nD τ sig) → Buf (Elt F) ℓ) (ρ : Dev nD → PrngReg)

local notation "𝕄" => MT nD τ sig Unit (Elt F) ℕ (Option PUnit) ℕ

/-- The reference launches no kernel: nothing to admit. -/
abbrev adm : (p : Fin 0) → (pcfgs (F := F) p).Adm := fun p => p.elim0
/-- The reference launches no kernel: no ticket. -/
abbrev tk : Fin 0 → Pipeline.Ticket (Ix := Unit) (Name := ℕ) (U := Option PUnit) (Lvl := ℕ) (nD := nD) (τ := τ) (pcfgs (F := F)) adm := fun j => j.elim0
/-- No semaphore owes anything. -/
abbrev L : GSem nD τ sig → Finset Unit := fun _ => ∅
/-- Every semaphore is at level zero. -/
abbrev lv : GSem nD τ sig → Unit → ℕ := fun _ _ => 0

/-- What is carried beside the buffers: the core owes nothing. -/
abbrev Rw (c : Dev nD) : sProp 𝕄 := iprop(∃ W, owes (c : Thread nD τ) (0 : CellTallies nD τ sig Unit) W)

/-! ## The contents at each boundary -/

/-- At the entry of the first loop. -/
def Wa (c : Dev nD) : Valuation τ sig (Elt F) := after preOps (launchContents m c)
/-- After the first loop. -/
def Wb (c : Dev nD) : Valuation τ sig (Elt F) := after cond0Ops (atTrip cond0Ops body0 (Wa m) 8192 c)
/-- At the entry of the second loop. -/
def Wc (c : Dev nD) : Valuation τ sig (Elt F) := after midOps (Wb m c)
/-- After the second loop. -/
def Wd (c : Dev nD) : Valuation τ sig (Elt F) := after cond1Ops (atTrip cond1Ops body1 (Wc m) 8192 c)
/-- At the end. -/
def We (c : Dev nD) : Valuation τ sig (Elt F) := after postOps (Wd m c)

/-- The first loop's counter starts at zero. -/
theorem Wa_ctr (c : Dev nD) : Wa m c (Proc.devRef .tc main_v9_3) = fun _ => (0#32 : BitVec 32) := by
  unfold Wa
  after_results
  rfl
/-- The second loop's counter starts at zero. -/
theorem Wc_ctr (c : Dev nD) : Wc m c (Proc.devRef .tc main_v17_3) = fun _ => (0#32 : BitVec 32) := by
  unfold Wc
  after_results
  rfl

/-- The counter at trip `k` of a loop from zero by ones is `k`. -/
theorem iv_ofNat (k : ℕ) : Scf.iv (0#32) (1#32) k = BitVec.ofNat 32 k := by
  unfold Scf.iv
  simp

set_option backward.isDefEq.respectTransparency.types false in
/-- The condition of loop 0, run for the `k`-th time, is true exactly when `k < 8192`. -/
theorem cond0_spec : LoopCond (pcfgs (F := F)) defs₀ Variants.none loops (Rw (F := F)) (main_while0_cond (F := F)) cond0Ops body0 (Wa m) 8192 := by
  intro k hk c bd
  have hctr := (loop0_val (Wa m) c (Wa_ctr m c) k hk).1
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0Ops body0 (Wa m) k c) main_v9_3 HostLoop.idx0)
        (HloOp.result _ (atTrip cond0Ops body0 (Wa m) k c) main_while0c_c_7 HostLoop.idx0) = 1#1) (k < 8192)
    rw [nullary_result_ne _ _ _ _ (by decide), nullary_result, hctr]
    show Iff (IntOp.cmpi .slt (BitVec.ofNat 32 k) (8192#32) = 1#1) (k < 8192)
    rw [← iv_ofNat k]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

set_option backward.isDefEq.respectTransparency.types false in
/-- The condition of loop 1, run for the `k`-th time, is true exactly when `k < 8192`. -/
theorem cond1_spec : LoopCond (pcfgs (F := F)) defs₀ Variants.none loops (Rw (F := F)) (main_while1_cond (F := F)) cond1Ops body1 (Wc m) 8192 := by
  intro k hk c bd
  have hctr := (loop1_val (Wc m) c (Wc_ctr m c) k hk).1
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1Ops body1 (Wc m) k c) main_v17_3 HostLoop.idx0)
        (HloOp.result _ (atTrip cond1Ops body1 (Wc m) k c) main_while1c_c_7 HostLoop.idx0) = 1#1) (k < 8192)
    rw [nullary_result_ne _ _ _ _ (by decide), nullary_result, hctr]
    show Iff (IntOp.cmpi .slt (BitVec.ofNat 32 k) (8192#32) = 1#1) (k < 8192)
    rw [← iv_ofNat k]
    exact Scf.cmpi_slt_iv_ub_iff (lb := 0#32) (ub := 8192#32) (st := 1#32) (by decide) (show k ≤ Scf.trips 0#32 8192#32 1#32 from hk)
  isplitl [Hb]; · iexact Hb
  isplitl [Hh]; · rw [after_cons, after_cons, after_nil]; iexact Hh
  iexact HR

/-- What precedes the loops is plain operations. -/
theorem pre_plain : Plain (F := F) [preOps] := .cons preOps_sub .nil (List.forall_iff_forall_mem.mp preOps_fresh)
/-- What lies between the loops is plain operations. -/
theorem mid_plain : Plain (F := F) [midOps] := .cons midOps_sub .nil (List.forall_iff_forall_mem.mp midOps_fresh)
/-- What follows the loops is plain operations. -/
theorem post_plain : Plain (F := F) [postOps] := .cons postOps_sub .nil (List.forall_iff_forall_mem.mp postOps_fresh)

/-- The program's five segments. -/
def segs : List (CSeg (pcfgs (F := F)) adm defs₀ Variants.none L lv loops tk) :=
  segsOf _ _ _ _ _ _ _ _ Rw [preOps] pre_plain (launchContents m)
    ++ (loopSeg _ _ _ _ _ _ _ _ 0 main_while0_cond main_while0_body rfl cond0Ops body0 body0_plain body0_eq 8192 (Wa m) Rw (cond0_spec m)
      :: (segsOf _ _ _ _ _ _ _ _ Rw [midOps] mid_plain (Wb m)
        ++ (loopSeg _ _ _ _ _ _ _ _ 1 main_while1_cond main_while1_body rfl cond1Ops body1 body1_plain body1_eq 8192 (Wc m) Rw (cond1_spec m)
          :: segsOf _ _ _ _ _ _ _ _ Rw [postOps] post_plain (Wd m))))

/-- The segments, in order, are the program. -/
theorem segs_prog : (segs m).map CSeg.prog
    = [StableHlo.seq preOps, HostLoop.enter 0, StableHlo.seq midOps, HostLoop.enter 1, StableHlo.seq postOps] := by
  unfold segs
  rw [List.map_append, List.map_cons, List.map_append, List.map_cons, segsOf_prog, segsOf_prog, segsOf_prog]
  rfl

/-- Each segment starts from what the one before it ends with. -/
theorem segs_chains : CSeg.Chains (fun c => iprop(held (c : Thread nD τ) (ucRefs τ sig) (launchContents m c) ∗ Rw c)) (segs m)
    (fun c => iprop(iprop(held (c : Thread nD τ) (ucRefs τ sig) (We m c)) ∗ ∃ W, owes (c : Thread nD τ) (0 : CellTallies nD τ sig Unit) W)) := by
  unfold segs
  exact CSeg.Chains.append (segsOf_chains _ _ _ _ _ _ _ _ Rw [preOps] pre_plain _) ⟨fun _ => .rfl,
    CSeg.Chains.append (segsOf_chains _ _ _ _ _ _ _ _ Rw [midOps] mid_plain _) ⟨fun _ => .rfl,
      segsOf_chains _ _ _ _ _ _ _ _ Rw [postOps] post_plain _⟩⟩

/-- There are no cells to tell apart. -/
theorem cellOf_injective : Function.Injective (Pipeline.cellOf (nD := nD) (τ := τ) (Pipeline.pin (pcfgs (F := F)) adm)) :=
  fun k => k.1.elim0

/-- Every fair run of the reference ends with every array at `We`. -/
theorem run_main [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
        r.2.mem ((c.tc : Thread nD τ).loc b) = We m c (Proc.devRef .tc b)) :=
  Pipeline.θ_run_regions_loop_kit (Ix := Unit) (Name := ℕ) (U := Option PUnit) (Lvl := ℕ) (J := Fin 0) (P := Fin 0) (Val := Elt F)
    pcfgs adm cellOf_injective defs₀ Variants.none L lv loops tk m ρ main (segs m)
    (fun c Q => by
      rw [main_eq c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (We m c)))
    (hch := segs_chains m)
    (hinit := by
      refine Pipeline.initEach L lv fun c => ?_
      rw [show unscopedBufs c (fun b => m ((c : Thread nD τ).loc b)) = held (c : Thread nD τ) (ucRefs τ sig) (launchContents m c) from
        Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = We m c b)
    (hfin := fun c s' => by
      unfold held
      iintro ⟨Hh, HSI⟩
      ihave Hr := (pointsTo_read_all (ucRefs τ sig) (fun b => ((c : Dev nD), b)) (fun b => We m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-- What no operation writes is at the end as at launch. -/
theorem We_kept (c : Dev nD) {r : Ref sig .tc} (h1 : r ∉ preOpsW) (h2 : r ∉ trip0W) (h3 : r ∉ cond0OpsW) (h4 : r ∉ midOpsW)
    (h5 : r ∉ trip1W) (h6 : r ∉ cond1OpsW) (h7 : r ∉ postOpsW) :
    We m c (Proc.devRef .tc r) = m ((c.tc : Thread nD τ).loc r) := by
  unfold We
  rw [after_of_writes_sub postOps _ postOps_writes h7]
  unfold Wd
  rw [after_of_writes_sub cond1Ops _ cond1Ops_writes h6, loop1_kept _ _ h5]
  unfold Wc
  rw [after_of_writes_sub midOps _ midOps_writes h4]
  unfold Wb
  rw [after_of_writes_sub cond0Ops _ cond0Ops_writes h3, loop0_kept _ _ h2]
  unfold Wa
  rw [after_of_writes_sub preOps _ preOps_writes h1]

/-! ## The values -/

/-- An array's contents at launch. -/
abbrev V (c : Dev nD) (b : Ref sig .tc) : Buf (Elt F) ((c.tc : Thread nD τ).loc b) := m ((c.tc : Thread nD τ).loc b)

/-- The first layer's input projection. -/
def proj0 (x : Vec F S1x8192 .f32) (w : Vec F S2048x1 .f32) (b : Vec F S2048 .f32) : Vec F S8192x1x2048 .f32 :=
  addf (Host.dotGeneral dot_S8192x1x1_S2048x1_S8192x1x2048_2_1_01_0_n_n none
      (broadcastInDim S8192x1x1 ![0, 1] bcast_S8192x1_S8192x1x1_0_1 (transpose S8192x1 [1, 0] x transposes_S1x8192_S8192x1_1_0)) w)
    (broadcastInDim S8192x1x2048 ![0, 1, 2] bcast_S1x1x2048_S8192x1x2048_0_1_2 (broadcastInDim S1x1x2048 ![2] bcast_S2048_S1x1x2048_2 b))

/-- The second layer's input projection. -/
def proj1 (Q : Vec F S8192x1x2048 .f32) (W : Vec F S2048x2048 .f32) (b : Vec F S2048 .f32) : Vec F S8192x1x2048 .f32 :=
  addf (Host.dotGeneral dot_S8192x1x2048_S2048x2048_S8192x1x2048_2_1_01_0_n_n none Q W)
    (broadcastInDim S8192x1x2048 ![0, 1, 2] bcast_S1x1x2048_S8192x1x2048_0_1_2 (broadcastInDim S1x1x2048 ![2] bcast_S2048_S1x1x2048_2 b))

/-- The two layers' initial states. -/
def init0 (h : Vec F S2x1x2048 .f32) : Vec F S1x2048 .f32 :=
  shapeCast S1x2048 (extractStridedSlice S1x1x2048 ![0, 0, 0] h slices_S2x1x2048_S1x1x2048_0_0_0) shapeCasts_S1x1x2048_S1x2048
/-- The second layer's initial state. -/
def init1 (h : Vec F S2x1x2048 .f32) : Vec F S1x2048 .f32 :=
  shapeCast S1x2048 (extractStridedSlice S1x1x2048 ![1, 0, 0] h slices_S2x1x2048_S1x1x2048_1_0_0) shapeCasts_S1x1x2048_S1x2048

/-- The first layer's state after `n` steps. -/
def R0 (c : Dev nD) (n : ℕ) : Vec F S1x2048 .f32 :=
  rstate (proj0 (V m c main_arg0) (V m c main_arg2) (V m c main_arg4)) (V m c main_arg3) (V m c main_arg5) (init0 (V m c main_arg1)) n

/-- The first layer's states, one row per step. -/
def Q0 (c : Dev nD) : Vec F S8192x1x2048 .f32 := fun i => R0 m c ((i 0).val + 1) (ValueIdx.ix2 (0 : Fin 1) (i 2))

/-- The second layer's state after `n` steps. -/
def R1 (c : Dev nD) (n : ℕ) : Vec F S1x2048 .f32 :=
  rstate (proj1 (Q0 m c) (V m c main_arg6) (V m c main_arg8)) (V m c main_arg7) (V m c main_arg9) (init1 (V m c main_arg1)) n

/-- The reference's result: the two layers' last states, one above the other. -/
def refOut (c : Dev nD) : Vec F S2x1x2048 .f32 :=
  concatenate S2x1x2048 0 [⟨S1x1x2048, broadcastInDim S1x1x2048 ![1, 2] bcast_S1x2048_S1x1x2048_1_2 (R0 m c 8192)⟩,
    ⟨S1x1x2048, broadcastInDim S1x1x2048 ![1, 2] bcast_S1x2048_S1x1x2048_1_2 (R1 m c 8192)⟩] concatenates_S1x1x2048_S1x1x2048_S2x1x2048_d0

/-- The first loop starts on the input's projection. -/
theorem Wa_0 (c : Dev nD) : Wa m c (Proc.devRef .tc main_v9_0) = proj0 (V m c main_arg0) (V m c main_arg2) (V m c main_arg4) := by
  unfold Wa; after_results; rfl
/-- The first loop starts on layer 0's recurrent weights. -/
theorem Wa_1 (c : Dev nD) : Wa m c (Proc.devRef .tc main_v9_1) = V m c main_arg3 := by
  unfold Wa; after_results; rfl
/-- The first loop starts on layer 0's recurrent bias. -/
theorem Wa_2 (c : Dev nD) : Wa m c (Proc.devRef .tc main_v9_2) = V m c main_arg5 := by
  unfold Wa; after_results; rfl
/-- The first loop starts on layer 0's initial state. -/
theorem Wa_4 (c : Dev nD) : Wa m c (Proc.devRef .tc main_v9_4) = init0 (V m c main_arg1) := by
  unfold Wa; after_results; rfl

/-- A buffer that nothing up to the end of the first loop writes has its contents at launch there. -/
theorem Wb_kept (c : Dev nD) {r : Ref sig .tc} (h1 : r ∉ preOpsW) (h2 : r ∉ trip0W) (h3 : r ∉ cond0OpsW) :
    Wb m c (Proc.devRef .tc r) = V m c r := by
  unfold Wb
  rw [after_of_writes_sub cond0Ops _ cond0Ops_writes h3, loop0_kept _ _ h2]
  unfold Wa
  rw [after_of_writes_sub preOps _ preOps_writes h1]

/-- The first loop leaves its last state and all its states. -/
theorem Wb_4 (c : Dev nD) : Wb m c (Proc.devRef .tc main_v9_4) = R0 m c 8192 := by
  unfold Wb
  rw [after_of_writes_sub cond0Ops _ cond0Ops_writes (by decide), (loop0_val (Wa m) c (Wa_ctr m c) 8192 le_rfl).2.1, Wa_0, Wa_1, Wa_2, Wa_4]
  rfl
/-- The first loop ends with layer 0's states. -/
theorem Wb_5 (c : Dev nD) : Wb m c (Proc.devRef .tc main_v9_5) = Q0 m c := by
  unfold Wb
  rw [after_of_writes_sub cond0Ops _ cond0Ops_writes (by decide)]
  funext i
  have h := (loop0_val (Wa m) c (Wa_ctr m c) 8192 le_rfl).2.2 i (i 0).isLt
  rw [Wa_0, Wa_1, Wa_2, Wa_4] at h
  exact h

/-- The second loop starts on the projection of layer 0's states. -/
theorem Wc_0 (c : Dev nD) : Wc m c (Proc.devRef .tc main_v17_0) = proj1 (Q0 m c) (V m c main_arg6) (V m c main_arg8) := by
  have h5 := Wb_5 m c
  have h6 := Wb_kept m c (r := main_arg6) (by decide) (by decide) (by decide)
  have h8 := Wb_kept m c (r := main_arg8) (by decide) (by decide) (by decide)
  unfold Wc
  generalize Wb m c = X at *
  rw [← h5, ← h6, ← h8]
  after_results
  rfl
/-- The second loop starts on layer 1's recurrent weights. -/
theorem Wc_1 (c : Dev nD) : Wc m c (Proc.devRef .tc main_v17_1) = V m c main_arg7 := by
  have h := Wb_kept m c (r := main_arg7) (by decide) (by decide) (by decide)
  unfold Wc
  generalize Wb m c = X at *
  rw [← h]
  after_results
  rfl
/-- The second loop starts on layer 1's recurrent bias. -/
theorem Wc_2 (c : Dev nD) : Wc m c (Proc.devRef .tc main_v17_2) = V m c main_arg9 := by
  have h := Wb_kept m c (r := main_arg9) (by decide) (by decide) (by decide)
  unfold Wc
  generalize Wb m c = X at *
  rw [← h]
  after_results
  rfl
/-- The second loop starts on layer 1's initial state. -/
theorem Wc_4 (c : Dev nD) : Wc m c (Proc.devRef .tc main_v17_4) = init1 (V m c main_arg1) := by
  have h := Wb_kept m c (r := main_arg1) (by decide) (by decide) (by decide)
  unfold Wc
  generalize Wb m c = X at *
  rw [← h]
  after_results
  rfl

/-- The second loop leaves its last state, and the first loop's. -/
theorem Wd_17 (c : Dev nD) : Wd m c (Proc.devRef .tc main_v17_4) = R1 m c 8192 := by
  unfold Wd
  rw [after_of_writes_sub cond1Ops _ cond1Ops_writes (by decide), (loop1_val (Wc m) c (Wc_ctr m c) 8192 le_rfl).2.1, Wc_0, Wc_1, Wc_2, Wc_4]
  rfl
/-- Layer 0's last state is still there after the second loop. -/
theorem Wd_9 (c : Dev nD) : Wd m c (Proc.devRef .tc main_v9_4) = R0 m c 8192 := by
  unfold Wd
  rw [after_of_writes_sub cond1Ops _ cond1Ops_writes (by decide), loop1_kept _ _ (by decide)]
  unfold Wc
  rw [after_of_writes_sub midOps _ midOps_writes (by decide), Wb_4]

/-- The program ends with the two last states, one above the other. -/
theorem We_out (c : Dev nD) : We m c (Proc.devRef .tc main_v20) = refOut m c := by
  have h9 := Wd_9 m c
  have h17 := Wd_17 m c
  unfold We refOut
  generalize Wd m c = X at *
  rw [← h9, ← h17]
  after_results

/-- The run of the reference: its result, every argument as launched, every counter zero. -/
theorem run [∀ e, Nonempty (Elt F e)] : θ_run (defs (F := F)) (onTc (τ := τ) (main (F := F))) ⟨m, fun _ => 0, ρ⟩ (fun r => (∀ c : Dev nD,
      r.2.mem ((c.tc : Thread nD τ).loc main_v20) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c =>
     ⟨(hr c main_v20 rfl).trans (We_out m c),
      (hr c main_arg0 rfl).trans (We_kept m c (by decide) (by decide) (by decide) (by decide) (by decide) (by decide) (by decide)),
      (hr c main_arg1 rfl).trans (We_kept m c (by decide) (by decide) (by decide) (by decide) (by decide) (by decide) (by decide)),
      (hr c main_arg2 rfl).trans (We_kept m c (by decide) (by decide) (by decide) (by decide) (by decide) (by decide) (by decide)),
      (hr c main_arg3 rfl).trans (We_kept m c (by decide) (by decide) (by decide) (by decide) (by decide) (by decide) (by decide)),
      (hr c main_arg4 rfl).trans (We_kept m c (by decide) (by decide) (by decide) (by decide) (by decide) (by decide) (by decide)),
      (hr c main_arg5 rfl).trans (We_kept m c (by decide) (by decide) (by decide) (by decide) (by decide) (by decide) (by decide)),
      (hr c main_arg6 rfl).trans (We_kept m c (by decide) (by decide) (by decide) (by decide) (by decide) (by decide) (by decide)),
      (hr c main_arg7 rfl).trans (We_kept m c (by decide) (by decide) (by decide) (by decide) (by decide) (by decide) (by decide)),
      (hr c main_arg8 rfl).trans (We_kept m c (by decide) (by decide) (by decide) (by decide) (by decide) (by decide) (by decide)),
      (hr c main_arg9 rfl).trans (We_kept m c (by decide) (by decide) (by decide) (by decide) (by decide) (by decide) (by decide))⟩, sem_eq_zero_of_no_sems (by decide) r.2⟩) (run_main m ρ)

end Cert.ReferenceIdeal.Hand
-- ==== Proof.Value.lean ====
/-
  The kernel's and the reference's steps over the extended reals, read at an index.
-/
module

public import proofs.«01_k».proof.Proof.Track
public import proofs.«01_k».proof.Proof.RefRun
public import Idealize.ShloMosaic.Lib.Pointwise

@[expose] public section

noncomputable section

namespace Cert.Value

open Idealize.ShloMosaic
open scoped BigOperators
open Cert.KernelIdeal (S1x2048 S2x2048 S128x2048 S2048x2048)
open Cert.KernelIdeal.Gen (k0_pay2 k0_pay3 k0_pay4 k0_pay8 k0_pay11 k0_pay13 k0_pay14 k0_pay15 k0_pay16)
open Cert.KernelIdeal.Hand (step0 step1 preact)

/-- The value a hyperbolic tangent takes is finite. -/
theorem tanh_sub_self (x : EReal) : Ideal.tanh x - Ideal.tanh x = 0 := by
  induction x with
  | bot => show ((-1 : ℝ) : EReal) - ((-1 : ℝ) : EReal) = 0; rw [← EReal.coe_sub, sub_self, EReal.coe_zero]
  | top => show ((1 : ℝ) : EReal) - ((1 : ℝ) : EReal) = 0; rw [← EReal.coe_sub, sub_self, EReal.coe_zero]
  | coe r => show ((Real.tanh r : ℝ) : EReal) - ((Real.tanh r : ℝ) : EReal) = 0; rw [← EReal.coe_sub, sub_self, EReal.coe_zero]

/-- The first of two stacked rows. -/
theorem stack_top {α : Type} (a b : S1x2048.Idx → α) (k : Fin 2048) :
    concatenate S2x2048 0 [⟨S1x2048, a⟩, ⟨S1x2048, b⟩] Cert.KernelIdeal.Gen.concatenates_S1x2048_S1x2048_S2x2048_d0 (ix2 (0 : Fin 2) k)
      = a (ix2 (0 : Fin 1) k) := by
  exact concatenate_pair_apply_left (s₁ := S1x2048) (s₂ := S1x2048) (t := S2x2048) 0 a b _ _ rfl _ (by intro b; fin_cases b <;> rfl)

/-- The second of two stacked rows. -/
theorem stack_bottom {α : Type} (a b : S1x2048.Idx → α) (k : Fin 2048) :
    concatenate S2x2048 0 [⟨S1x2048, a⟩, ⟨S1x2048, b⟩] Cert.KernelIdeal.Gen.concatenates_S1x2048_S1x2048_S2x2048_d0 (ix2 (1 : Fin 2) k)
      = b (ix2 (0 : Fin 1) k) := by
  exact concatenate_pair_apply_right (s₁ := S1x2048) (s₂ := S1x2048) (t := S2x2048) 0 a b _ _ rfl rfl _
    (by intro b hb; fin_cases b; exact absurd rfl hb; rfl) rfl

/-- A step of layer 0 whose low weights are zero, from a finite state: the split product is the product. -/
theorem step0_ideal (w b b' h : FVec Ideal S1x2048 .f32) (hi : FVec Ideal S2048x2048 .bf16) (lo : FVec Ideal S2048x2048 .fp8e4m3)
    (xt : Ideal .f32) (hlo : ∀ i, lo i = (0 : EReal)) (hh : ∀ j, (h j : EReal) - h j = 0) (q : Fin 2048) :
    (step0 (F := Ideal) w b b' hi lo xt h : FVec Ideal S1x2048 .f32) (ix2 (0 : Fin 1) q)
      = Ideal.tanh ((xt * w (ix2 (0 : Fin 1) q) + (b (ix2 (0 : Fin 1) q) + b' (ix2 (0 : Fin 1) q)))
        + ∑ k : Fin 2048, (h (ix2 (0 : Fin 1) k) * hi (ix2 k q) : EReal)) := by
  unfold step0 k0_pay8 k0_pay2 k0_pay3
  try dsimp only
  generalize hM : concatenate S2x2048 0 _ _ = M
  have h0 : ∀ k : Fin 2048, (M (ix2 (0 : Fin 2) k) : EReal) = h (ix2 (0 : Fin 1) k) := by
    intro k; rw [← hM, stack_top]; rfl
  have h1 : ∀ k : Fin 2048, (M (ix2 (1 : Fin 2) k) : EReal) = 0 := by
    intro k; rw [← hM, stack_bottom]; exact hh _
  clear hM
  simp only [pointwise]
  have z0 : ∀ h', (⟨![0, 0] 1 + q.val, h'⟩ : Fin 2048) = q := fun _ => Fin.ext (Nat.zero_add _)
  simp only [z0, h0, h1, hlo, zero_add, add_zero, mul_zero, zero_mul, Finset.sum_const_zero]

/-- A step of layer 1 whose low weights are zero, from a finite state: the split product is the product. -/
theorem step1_ideal (h xr : FVec Ideal S1x2048 .f32) (hi : FVec Ideal S2048x2048 .bf16) (lo : FVec Ideal S2048x2048 .fp8e4m3)
    (hlo : ∀ i, lo i = (0 : EReal)) (hh : ∀ j, (h j : EReal) - h j = 0) (q : Fin 2048) :
    (step1 (F := Ideal) hi lo xr h : FVec Ideal S1x2048 .f32) (ix2 (0 : Fin 1) q)
      = Ideal.tanh (xr (ix2 (0 : Fin 1) q) + ∑ k : Fin 2048, (h (ix2 (0 : Fin 1) k) * hi (ix2 k q) : EReal)) := by
  unfold step1 k0_pay11
  try dsimp only
  generalize hM : concatenate S2x2048 0 _ _ = M
  have h0 : ∀ k : Fin 2048, (M (ix2 (0 : Fin 2) k) : EReal) = h (ix2 (0 : Fin 1) k) := by
    intro k; rw [← hM, stack_top]; rfl
  have h1 : ∀ k : Fin 2048, (M (ix2 (1 : Fin 2) k) : EReal) = 0 := by
    intro k; rw [← hM, stack_bottom]; exact hh _
  clear hM
  simp only [pointwise]
  have z0 : ∀ h', (⟨![0, 0] 1 + q.val, h'⟩ : Fin 2048) = q := fun _ => Fin.ext (Nat.zero_add _)
  simp only [z0, h0, h1, hlo, zero_add, add_zero, mul_zero, zero_mul, Finset.sum_const_zero]

/-- The blocked projection of finite rows by weights whose low part is zero: the product with the weights plus both biases. -/
theorem preact_ideal (hx : FVec Ideal S2048x2048 .bf16) (lx : FVec Ideal S2048x2048 .fp8e4m3) (c c' : FVec Ideal S1x2048 .f32)
    (hs : FVec Ideal S128x2048 .f32) (hlo : ∀ i, lx i = (0 : EReal)) (hh : ∀ j, (hs j : EReal) - hs j = 0) (r : Fin 128) (q : Fin 2048) :
    (preact (F := Ideal) hx lx c c' hs : FVec Ideal S128x2048 .f32) (ix2 r q)
      = ((∑ k : Fin 2048, (hs (ix2 r k) * hx (ix2 k q) : EReal)) + c (ix2 (0 : Fin 1) q)) + c' (ix2 (0 : Fin 1) q) := by
  unfold preact k0_pay4 k0_pay15 k0_pay16 k0_pay14 k0_pay13
  simp only [pointwise]
  simp only [hh, hlo, zero_add, add_zero, mul_zero, zero_mul, Finset.sum_const_zero]
  rfl

section

open Cert.ReferenceIdeal.Hand (rstep rowAt)

/-- A step of the reference. -/
theorem rstep_ideal (W : FVec Ideal S2048x2048 .f32) (b : FVec Ideal Cert.ReferenceIdeal.S2048 .f32) (xr h : FVec Ideal S1x2048 .f32) (q : Fin 2048) :
    (rstep (F := Ideal) W b xr h : FVec Ideal S1x2048 .f32) (ix2 (0 : Fin 1) q)
      = Ideal.tanh ((xr (ix2 (0 : Fin 1) q) + ∑ k : Fin 2048, (h (ix2 (0 : Fin 1) k) * W (ix2 q k) : EReal)) + b (ix1 q)) := by
  unfold rstep
  simp only [pointwise]
  simp only [zero_add, Fin.sum_univ_one]
  rfl

/-- The reference's projection of the input into layer 0. -/
theorem proj0_ideal (x : FVec Ideal Cert.ReferenceIdeal.S1x8192 .f32) (w : FVec Ideal Cert.ReferenceIdeal.S2048x1 .f32)
    (b : FVec Ideal Cert.ReferenceIdeal.S2048 .f32) (t : Fin 8192) (q : Fin 2048) :
    (Cert.ReferenceIdeal.Hand.proj0 (F := Ideal) x w b : FVec Ideal Cert.ReferenceIdeal.S8192x1x2048 .f32) (ix3 t (0 : Fin 1) q)
      = (x (ix2 (0 : Fin 1) t) * w (ix2 q (0 : Fin 1)) : EReal) + b (ix1 q) := by
  unfold Cert.ReferenceIdeal.Hand.proj0
  simp only [pointwise]
  simp only [zero_add, Fin.sum_univ_one]
  rfl

/-- The reference's projection of layer 0's states into layer 1. -/
theorem proj1_ideal (Q : FVec Ideal Cert.ReferenceIdeal.S8192x1x2048 .f32) (W : FVec Ideal S2048x2048 .f32)
    (b : FVec Ideal Cert.ReferenceIdeal.S2048 .f32) (t : Fin 8192) (q : Fin 2048) :
    (Cert.ReferenceIdeal.Hand.proj1 (F := Ideal) Q W b : FVec Ideal Cert.ReferenceIdeal.S8192x1x2048 .f32) (ix3 t (0 : Fin 1) q)
      = (∑ k : Fin 2048, (Q (ix3 t (0 : Fin 1) k) * W (ix2 q k) : EReal)) + b (ix1 q) := by
  unfold Cert.ReferenceIdeal.Hand.proj1
  simp only [pointwise]
  simp only [zero_add, Fin.sum_univ_one]
  rfl

end

end Cert.Value
-- ==== Proof.Layers.lean ====
/-
  Over the extended reals, from finite initial states and with the low weights zero, each layer's states are the reference's.
-/
module

public import proofs.«01_k».proof.Proof.Value

@[expose] public section

noncomputable section

namespace Cert.Value

open Idealize.ShloMosaic
open scoped BigOperators
open Cert.KernelIdeal (S1x2048 S2x2048 S128x2048 S2048x2048)
open Cert.KernelIdeal.Hand (step0 step1 preact state0 states0 state1 carryRow chain rowOf xAt statesOf)
open Cert.ReferenceIdeal (S2048 S1x8192 S2048x1 S8192x1x2048)
open Cert.ReferenceIdeal.Hand (rstep rstate rowAt proj0 proj1)

/-- A row's index is its column. -/
theorem row_ix (j : S1x2048.Idx) : j = ix2 (0 : Fin 1) (j 1) := by
  funext d
  match d with
  | ⟨0, _⟩ => exact Subsingleton.elim (α := Fin 1) _ _
  | ⟨1, _⟩ => rfl

/-- Two rows with the same entries are equal. -/
theorem row_ext {a b : FVec Ideal S1x2048 .f32} (h : ∀ q : Fin 2048, (a (ix2 (0 : Fin 1) q) : EReal) = b (ix2 (0 : Fin 1) q)) : a = b := by
  funext j
  rw [row_ix j]
  exact h _

/-- Every entry of the row is finite. -/
def Flat (h : FVec Ideal S1x2048 .f32) : Prop := ∀ j, (h j : EReal) - h j = 0

/-- A row of hyperbolic tangents is finite. -/
theorem flat_of_tanh {h : FVec Ideal S1x2048 .f32} (f : Fin 2048 → EReal) (e : ∀ q : Fin 2048, (h (ix2 (0 : Fin 1) q) : EReal) = Ideal.tanh (f q)) :
    Flat h := by
  intro j
  have k : (h j : EReal) = Ideal.tanh (f (j 1)) := (congrArg h (row_ix j)).trans (e _)
  rw [k]
  exact tanh_sub_self _

section
variable (x : FVec Ideal S1x8192 .f32) (h : FVec Ideal S2x2048 .f32) (w b b' : FVec Ideal S1x2048 .f32)
  (hi : FVec Ideal S2048x2048 .bf16) (lo : FVec Ideal S2048x2048 .fp8e4m3)

/-- Layer 0's states are the reference's, and they are finite. -/
theorem layer0 (w' : FVec Ideal S2048x1 .f32) (bi bh : FVec Ideal S2048 .f32) (W : FVec Ideal S2048x2048 .f32) (h' : FVec Ideal S1x2048 .f32)
    (hw : ∀ q : Fin 2048, (w (ix2 (0 : Fin 1) q) : EReal) = w' (ix2 q (0 : Fin 1)))
    (hb : ∀ q : Fin 2048, (b (ix2 (0 : Fin 1) q) : EReal) = bi (ix1 q)) (hb' : ∀ q : Fin 2048, (b' (ix2 (0 : Fin 1) q) : EReal) = bh (ix1 q))
    (hhi : ∀ k q : Fin 2048, (hi (ix2 k q) : EReal) = W (ix2 q k)) (hlo : ∀ i, lo i = (0 : EReal))
    (hh : carryRow (F := Ideal) h 0 = h') (hf : Flat h') (n : ℕ) :
    state0 (F := Ideal) x h w b b' hi lo n = rstate (F := Ideal) (proj0 x w' bi) W bh h' n ∧ Flat (state0 (F := Ideal) x h w b b' hi lo n) := by
  induction n with
  | zero => exact ⟨hh, by show Flat (carryRow (F := Ideal) h 0); rw [hh]; exact hf⟩
  | succ n ih =>
    have e := step0_ideal w b b' (state0 (F := Ideal) x h w b b' hi lo n) hi lo (xAt (F := Ideal) x n) hlo ih.2
    refine ⟨row_ext fun q => (e q).trans ?_, flat_of_tanh _ e⟩
    refine Eq.trans ?_ (rstep_ideal W bh (rowAt (F := Ideal) (proj0 (F := Ideal) x w' bi) n) (rstate (F := Ideal) (proj0 x w' bi) W bh h' n) q).symm
    rw [ih.1, hw, hb, hb']
    have p : ((rowAt (proj0 (F := Ideal) x w' bi) n : FVec Ideal S1x2048 .f32) (ix2 (0 : Fin 1) q) : EReal)
        = (x (ix2 (0 : Fin 1) (Fin.ofNat 8192 n)) * w' (ix2 q (0 : Fin 1)) : EReal) + bi (ix1 q) := proj0_ideal x w' bi (Fin.ofNat 8192 n) q
    rw [p]
    simp only [hhi]
    refine congrArg Ideal.tanh ?_
    show (x (ix2 (0 : Fin 1) (Fin.ofNat 8192 n)) * w' (ix2 q (0 : Fin 1)) + (bi (ix1 q) + bh (ix1 q)) + _ : EReal) = _
    abel
end

section
variable (h : FVec Ideal S2x2048 .f32) (S : ℕ → FVec Ideal S1x2048 .f32) (hx : FVec Ideal S2048x2048 .bf16) (lx : FVec Ideal S2048x2048 .fp8e4m3)
  (c c' : FVec Ideal S1x2048 .f32) (hi : FVec Ideal S2048x2048 .bf16) (lo : FVec Ideal S2048x2048 .fp8e4m3)

/-- Layer 1's states, from the states of layer 0, are the reference's, and they are finite. -/
theorem layer1 (bi bh : FVec Ideal S2048 .f32) (Wx W : FVec Ideal S2048x2048 .f32) (h' : FVec Ideal S1x2048 .f32) (Q : FVec Ideal S8192x1x2048 .f32)
    (hc : ∀ q : Fin 2048, (c (ix2 (0 : Fin 1) q) : EReal) = bi (ix1 q)) (hc' : ∀ q : Fin 2048, (c' (ix2 (0 : Fin 1) q) : EReal) = bh (ix1 q))
    (hhx : ∀ k q : Fin 2048, (hx (ix2 k q) : EReal) = Wx (ix2 q k)) (hlx : ∀ i, lx i = (0 : EReal))
    (hhi : ∀ k q : Fin 2048, (hi (ix2 k q) : EReal) = W (ix2 q k)) (hlo : ∀ i, lo i = (0 : EReal))
    (hS : ∀ n, Flat (S n)) (hQ : ∀ (t : Fin 8192) (k : Fin 2048), (Q (ix3 t (0 : Fin 1) k) : EReal) = S (t.val + 1) (ix2 (0 : Fin 1) k))
    (hh : carryRow (F := Ideal) h 1 = h') (hf : Flat h') (n : ℕ) (hn : n ≤ 8192) :
    (chain (fun k => step1 (F := Ideal) hi lo (rowOf (F := Ideal) (preact (F := Ideal) hx lx c c' (statesOf (F := Ideal) (fun r => S (128 * (k / 128) + r)))) (k % 128))) (carryRow (F := Ideal) h 1) n
      : FVec Ideal S1x2048 .f32) = rstate (F := Ideal) (proj1 Q Wx bi) W bh h' n
    ∧ Flat (chain (fun k => step1 (F := Ideal) hi lo (rowOf (F := Ideal) (preact (F := Ideal) hx lx c c' (statesOf (F := Ideal) (fun r => S (128 * (k / 128) + r)))) (k % 128))) (carryRow (F := Ideal) h 1) n) := by
  induction n with
  | zero => exact ⟨hh, by show Flat (carryRow (F := Ideal) h 1); rw [hh]; exact hf⟩
  | succ n ih =>
    have ih := ih (by omega)
    have e := step1_ideal _ (rowOf (F := Ideal) (preact (F := Ideal) hx lx c c' (statesOf (F := Ideal) (fun r => S (128 * (n / 128) + r)))) (n % 128)) hi lo hlo ih.2
    refine ⟨row_ext fun q => (e q).trans ?_, flat_of_tanh _ e⟩
    refine Eq.trans ?_ (rstep_ideal W bh (rowAt (F := Ideal) (proj1 (F := Ideal) Q Wx bi) n) (rstate (F := Ideal) (proj1 Q Wx bi) W bh h' n) q).symm
    rw [ih.1]
    have p : ((rowAt (proj1 (F := Ideal) Q Wx bi) n : FVec Ideal S1x2048 .f32) (ix2 (0 : Fin 1) q) : EReal)
        = (∑ k : Fin 2048, (Q (ix3 (Fin.ofNat 8192 n) (0 : Fin 1) k) * Wx (ix2 q k) : EReal)) + bi (ix1 q) := proj1_ideal Q Wx bi (Fin.ofNat 8192 n) q
    have r : ((rowOf (preact (F := Ideal) hx lx c c' (statesOf (F := Ideal) (fun r => S (128 * (n / 128) + r)))) (n % 128) : FVec Ideal S1x2048 .f32) (ix2 (0 : Fin 1) q) : EReal)
        = _ := preact_ideal hx lx c c' (statesOf (F := Ideal) (fun r => S (128 * (n / 128) + r))) hlx (fun j => hS _ _) (Fin.ofNat 128 (n % 128)) q
    have s : ∀ k : Fin 2048, ((statesOf (F := Ideal) (fun r => S (128 * (n / 128) + r)) : FVec Ideal S128x2048 .f32) (ix2 (Fin.ofNat 128 (n % 128)) k) : EReal)
        = Q (ix3 (Fin.ofNat 8192 n) (0 : Fin 1) k) := by
      intro k
      rw [hQ]
      show S (128 * (n / 128) + (n % 128 % 128 + 1)) _ = S (n % 8192 + 1) _
      rw [show 128 * (n / 128) + (n % 128 % 128 + 1) = n % 8192 + 1 by omega]
      rfl
    rw [p, r]
    simp only [hhi, hhx, hc, hc', s]
    refine congrArg Ideal.tanh ?_
    abel
end

end Cert.Value
-- ==== Proof.Equal.lean ====
/-
  The kernel's array and the reference's are one array over the extended reals.
-/
module

public import proofs.«01_k».proof.Proof.Layers
public import Idealize.ShloMosaic.Lib.StableHlo.ReadAt

@[expose] public section

noncomputable section

namespace Cert.Value

open Idealize.ShloMosaic Idealize.SL.Sem
open scoped BigOperators
open Cert.KernelIdeal (nD τ sig S1x2048 S2x2048 S128x2048 S2048x2048 main_v1 main_v6 main_v8 main_v13 main_v15 main_v20 main_v21 main_v22 main_v23 main_v24 main_v25
  main_v26 main_arg0 main_arg1 main_arg2 main_arg3 main_arg4 main_arg5 main_arg6 main_arg7 main_arg8 main_arg9)
open Cert.KernelIdeal.Gen (V V0 hostOps0)
open Cert.KernelIdeal.Hand (state0 states0 state1 carryRow carryOf chain statesOf T0 T1 outOf)
open Cert.ReferenceIdeal.Hand (rstate proj0 proj1 init0 init1 R0 R1 Q0 refOut)

/-- Every entry of the array is finite. -/
def Entries {s : Shape} (a : FVec Ideal s .f32) : Prop := ∀ i, (a i : EReal) - a i = 0

/-- The high part of a weight matrix: its transpose, at the narrower format. -/
def hiOf (W : FVec Ideal S2048x2048 .f32) : FVec Ideal S2048x2048 .bf16 :=
  truncf .bf16 (transpose S2048x2048 [1, 0] W Cert.KernelIdeal.Gen.transposes_S2048x2048_S2048x2048_1_0) Cert.KernelIdeal.Gen.bitsLt_bf16_f32

/-- The low part of a weight matrix: what the high part leaves of its transpose, times 4096, at the narrowest format. -/
def loOf (W : FVec Ideal S2048x2048 .f32) : FVec Ideal S2048x2048 .fp8e4m3 :=
  Host.convertf .fp8e4m3 (mulf (subf (transpose S2048x2048 [1, 0] W Cert.KernelIdeal.Gen.transposes_S2048x2048_S2048x2048_1_0)
      (extf .f32 (hiOf W) Cert.KernelIdeal.Gen.bitsLt_bf16_f32))
    (broadcastInDim S2048x2048 ![] Cert.KernelIdeal.Gen.bcast_S_S2048x2048 (constant (F := Ideal) Cert.KernelIdeal.S_ .f32 0x45800000#32)))

/-- Over the extended reals the high part is the transpose. -/
theorem hiOf_apply (W : FVec Ideal S2048x2048 .f32) (k q : Fin 2048) : (hiOf W (ix2 k q) : EReal) = W (ix2 q k) := by
  unfold hiOf
  simp only [pointwise]

/-- Over the extended reals the low part of a finite matrix is zero. -/
theorem loOf_apply (W : FVec Ideal S2048x2048 .f32) (h : ∀ i, (W i : EReal) - W i = 0) (i : S2048x2048.Idx) : (loOf W i : EReal) = 0 := by
  unfold loOf hiOf
  simp only [pointwise]
  rw [h, zero_mul]

/-- A vector laid out as a row. -/
theorem row_apply (b : FVec Ideal Cert.KernelIdeal.S2048 .f32) (q : Fin 2048) :
    (shapeCast S1x2048 b Cert.KernelIdeal.Gen.shapeCasts_S2048_S1x2048 (ix2 (0 : Fin 1) q) : EReal) = b (ix1 q) := by
  simp only [pointwise]

/-- A column laid out as a row. -/
theorem col_apply (w : FVec Ideal Cert.KernelIdeal.S2048x1 .f32) (q : Fin 2048) :
    (transpose S1x2048 [1, 0] w Cert.KernelIdeal.Gen.transposes_S2048x1_S1x2048_1_0 (ix2 (0 : Fin 1) q) : EReal) = w (ix2 q (0 : Fin 1)) := by
  simp only [pointwise]

/-- The first row of the initial states is the reference's initial state of layer 0. -/
theorem carryRow_0 (h : FVec Ideal Cert.KernelIdeal.S2x1x2048 .f32) :
    carryRow (F := Ideal) (shapeCast S2x2048 h Cert.KernelIdeal.Gen.shapeCasts_S2x1x2048_S2x2048) 0 = init0 (F := Ideal) h := by
  refine row_ext fun q => ?_
  unfold carryRow init0
  simp only [pointwise]
  exact congrArg (fun t : Fin 2048 => (h (ix3 (0 : Fin 2) (0 : Fin 1) t) : EReal)) (Fin.ext (Nat.zero_add _).symm)

/-- The second row of the initial states is the reference's initial state of layer 1. -/
theorem carryRow_1 (h : FVec Ideal Cert.KernelIdeal.S2x1x2048 .f32) :
    carryRow (F := Ideal) (shapeCast S2x2048 h Cert.KernelIdeal.Gen.shapeCasts_S2x1x2048_S2x2048) 1 = init1 (F := Ideal) h := by
  refine row_ext fun q => ?_
  unfold carryRow init1
  simp only [pointwise]
  exact congrArg (fun t : Fin 2048 => (h (ix3 (1 : Fin 2) (0 : Fin 1) t) : EReal)) (Fin.ext (Nat.zero_add _).symm)

/-- The reference's initial states are finite where the argument is. -/
theorem init0_flat (h : FVec Ideal Cert.KernelIdeal.S2x1x2048 .f32) (hf : ∀ i, (h i : EReal) - h i = 0) : Flat (init0 (F := Ideal) h) :=
  fun _ => hf _
/-- Layer 1's initial state is finite where the argument is. -/
theorem init1_flat (h : FVec Ideal Cert.KernelIdeal.S2x1x2048 .f32) (hf : ∀ i, (h i : EReal) - h i = 0) : Flat (init1 (F := Ideal) h) :=
  fun _ => hf _

/-- A row of the kernel's stack of two. -/
theorem kernel_stack (a b : FVec Ideal S1x2048 .f32) (k : Fin 2) (q : Fin 2048) :
    (shapeCast Cert.KernelIdeal.S2x1x2048 (carryOf (F := Ideal) a b) Cert.KernelIdeal.Gen.shapeCasts_S2x2048_S2x1x2048 (ix3 k (0 : Fin 1) q) : EReal)
      = carryOf (F := Ideal) a b (ix2 k q) := by
  simp only [pointwise]

/-- A row under a leading axis of extent one. -/
theorem lift_apply (a : FVec Ideal S1x2048 .f32) (q : Fin 2048) :
    (broadcastInDim Cert.ReferenceIdeal.S1x1x2048 ![1, 2] Cert.ReferenceIdeal.Gen.bcast_S1x2048_S1x1x2048_1_2 a (ix3 (0 : Fin 1) (0 : Fin 1) q) : EReal)
      = a (ix2 (0 : Fin 1) q) := by
  simp only [pointwise]
  rfl

/-- The upper row of the reference's stack of two. -/
theorem reference_top (a b : Cert.ReferenceIdeal.S1x1x2048.Idx → EReal) (q : Fin 2048) :
    concatenate Cert.ReferenceIdeal.S2x1x2048 0 [⟨Cert.ReferenceIdeal.S1x1x2048, a⟩, ⟨Cert.ReferenceIdeal.S1x1x2048, b⟩]
      Cert.ReferenceIdeal.Gen.concatenates_S1x1x2048_S1x1x2048_S2x1x2048_d0 (ix3 (0 : Fin 2) (0 : Fin 1) q) = a (ix3 (0 : Fin 1) (0 : Fin 1) q) :=
  concatenate_pair_apply_left (s₁ := Cert.ReferenceIdeal.S1x1x2048) (s₂ := Cert.ReferenceIdeal.S1x1x2048) (t := Cert.ReferenceIdeal.S2x1x2048) 0 a b _ _ rfl _
    (by intro d; fin_cases d <;> rfl)

/-- The lower row of the reference's stack of two. -/
theorem reference_bottom (a b : Cert.ReferenceIdeal.S1x1x2048.Idx → EReal) (q : Fin 2048) :
    concatenate Cert.ReferenceIdeal.S2x1x2048 0 [⟨Cert.ReferenceIdeal.S1x1x2048, a⟩, ⟨Cert.ReferenceIdeal.S1x1x2048, b⟩]
      Cert.ReferenceIdeal.Gen.concatenates_S1x1x2048_S1x1x2048_S2x1x2048_d0 (ix3 (1 : Fin 2) (0 : Fin 1) q) = b (ix3 (0 : Fin 1) (0 : Fin 1) q) :=
  concatenate_pair_apply_right (s₁ := Cert.ReferenceIdeal.S1x1x2048) (s₂ := Cert.ReferenceIdeal.S1x1x2048) (t := Cert.ReferenceIdeal.S2x1x2048) 0 a b _ _ rfl rfl _
    (by intro d hd; fin_cases d; exact absurd rfl hd; rfl; rfl) rfl

/-- Two rows, one above the other: the kernel's lay-out is the reference's. -/
theorem stacked (a b : FVec Ideal S1x2048 .f32) :
    shapeCast Cert.KernelIdeal.S2x1x2048 (carryOf (F := Ideal) a b) Cert.KernelIdeal.Gen.shapeCasts_S2x2048_S2x1x2048
      = concatenate Cert.ReferenceIdeal.S2x1x2048 0
          [⟨Cert.ReferenceIdeal.S1x1x2048, broadcastInDim Cert.ReferenceIdeal.S1x1x2048 ![1, 2] Cert.ReferenceIdeal.Gen.bcast_S1x2048_S1x1x2048_1_2 a⟩,
            ⟨Cert.ReferenceIdeal.S1x1x2048, broadcastInDim Cert.ReferenceIdeal.S1x1x2048 ![1, 2] Cert.ReferenceIdeal.Gen.bcast_S1x2048_S1x1x2048_1_2 b⟩]
          Cert.ReferenceIdeal.Gen.concatenates_S1x1x2048_S1x1x2048_S2x1x2048_d0 := by
  funext i
  have hi : i = ix3 (i 0 : Fin 2) (0 : Fin 1) (i 2 : Fin 2048) := by
    funext d
    match d with
    | ⟨0, _⟩ => rfl
    | ⟨1, _⟩ => exact Subsingleton.elim (α := Fin 1) _ _
    | ⟨2, _⟩ => rfl
  rcases (by have h : (i 0).val < 2 := (i 0).isLt; omega : (i 0).val = 0 ∨ (i 0).val = 1) with h | h
  · have hi : i = ix3 (0 : Fin 2) (0 : Fin 1) (i 2 : Fin 2048) := hi.trans (congrArg (fun k : Fin 2 => ix3 k (0 : Fin 1) (i 2 : Fin 2048)) (Fin.ext h))
    rw [hi]
    exact (kernel_stack a b 0 _).trans ((lift_apply a _).symm.trans (reference_top _ _ _).symm)
  · have hi : i = ix3 (1 : Fin 2) (0 : Fin 1) (i 2 : Fin 2048) := hi.trans (congrArg (fun k : Fin 2 => ix3 k (0 : Fin 1) (i 2 : Fin 2048)) (Fin.ext h))
    rw [hi]
    exact (kernel_stack a b 1 _).trans ((lift_apply b _).symm.trans (reference_bottom _ _ _).symm)

variable (m : (ℓ : Loc nD τ sig) → Buf (Elt Ideal) ℓ) (c : Dev nD)

/-- The argument arrays of the kernel's program. -/
abbrev arg (b : Ref sig .tc) : Buf (Elt Ideal) ((c.tc : Thread nD τ).loc b) := m ((c.tc : Thread nD τ).loc b)

/-- Layer 0's recurrent weights: the high part. -/
theorem val_v1 : V m c main_v1 = hiOf (arg m c main_arg3) := by
  unfold V V0 hostOps0
  simp only [List.flatten_cons, List.flatten_nil, List.append_nil]
  after_results
  try rfl

/-- Layer 1's input weights: the high part. -/
theorem val_v8 : V m c main_v8 = hiOf (arg m c main_arg6) := by
  unfold V V0 hostOps0
  simp only [List.flatten_cons, List.flatten_nil, List.append_nil]
  after_results
  try rfl

/-- Layer 1's recurrent weights: the high part. -/
theorem val_v15 : V m c main_v15 = hiOf (arg m c main_arg7) := by
  unfold V V0 hostOps0
  simp only [List.flatten_cons, List.flatten_nil, List.append_nil]
  after_results
  try rfl

/-- Layer 0's recurrent weights: the low part. -/
theorem val_v6 : V m c main_v6 = loOf (arg m c main_arg3) := by
  unfold V V0 hostOps0
  simp only [List.flatten_cons, List.flatten_nil, List.append_nil]
  after_results
  try rfl

/-- Layer 1's input weights: the low part. -/
theorem val_v13 : V m c main_v13 = loOf (arg m c main_arg6) := by
  unfold V V0 hostOps0
  simp only [List.flatten_cons, List.flatten_nil, List.append_nil]
  after_results
  try rfl

/-- Layer 1's recurrent weights: the low part. -/
theorem val_v20 : V m c main_v20 = loOf (arg m c main_arg7) := by
  unfold V V0 hostOps0
  simp only [List.flatten_cons, List.flatten_nil, List.append_nil]
  after_results
  try rfl

/-- The initial states, one row each. -/
theorem val_v21 : V m c main_v21 = shapeCast S2x2048 (arg m c main_arg1 : FVec Ideal Cert.KernelIdeal.S2x1x2048 .f32) Cert.KernelIdeal.Gen.shapeCasts_S2x1x2048_S2x2048 := by
  unfold V V0 hostOps0
  simp only [List.flatten_cons, List.flatten_nil, List.append_nil]
  after_results
  try rfl

/-- Layer 0's input weights, as a row. -/
theorem val_v22 : V m c main_v22 = transpose S1x2048 [1, 0] (arg m c main_arg2 : FVec Ideal Cert.KernelIdeal.S2048x1 .f32) Cert.KernelIdeal.Gen.transposes_S2048x1_S1x2048_1_0 := by
  unfold V V0 hostOps0
  simp only [List.flatten_cons, List.flatten_nil, List.append_nil]
  after_results
  try rfl

/-- A bias, as a row. -/
theorem val_v23 : V m c main_v23 = shapeCast S1x2048 (arg m c main_arg4 : FVec Ideal Cert.KernelIdeal.S2048 .f32) Cert.KernelIdeal.Gen.shapeCasts_S2048_S1x2048 := by
  unfold V V0 hostOps0
  simp only [List.flatten_cons, List.flatten_nil, List.append_nil]
  after_results
  try rfl

/-- A bias, as a row. -/
theorem val_v24 : V m c main_v24 = shapeCast S1x2048 (arg m c main_arg5 : FVec Ideal Cert.KernelIdeal.S2048 .f32) Cert.KernelIdeal.Gen.shapeCasts_S2048_S1x2048 := by
  unfold V V0 hostOps0
  simp only [List.flatten_cons, List.flatten_nil, List.append_nil]
  after_results
  try rfl

/-- A bias, as a row. -/
theorem val_v25 : V m c main_v25 = shapeCast S1x2048 (arg m c main_arg8 : FVec Ideal Cert.KernelIdeal.S2048 .f32) Cert.KernelIdeal.Gen.shapeCasts_S2048_S1x2048 := by
  unfold V V0 hostOps0
  simp only [List.flatten_cons, List.flatten_nil, List.append_nil]
  after_results
  try rfl

/-- A bias, as a row. -/
theorem val_v26 : V m c main_v26 = shapeCast S1x2048 (arg m c main_arg9 : FVec Ideal Cert.KernelIdeal.S2048 .f32) Cert.KernelIdeal.Gen.shapeCasts_S2048_S1x2048 := by
  unfold V V0 hostOps0
  simp only [List.flatten_cons, List.flatten_nil, List.append_nil]
  after_results
  try rfl

variable (m' : (ℓ : Loc Cert.ReferenceIdeal.nD Cert.ReferenceIdeal.τ Cert.ReferenceIdeal.sig) → Buf (Elt Ideal) ℓ)

/-- The reference's argument arrays are the kernel's. -/
def SameArgs : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)
  ∧ m' ((c.tc : Thread Cert.ReferenceIdeal.nD Cert.ReferenceIdeal.τ).loc Cert.ReferenceIdeal.main_arg8) = m ((c.tc : Thread nD τ).loc main_arg8)
  ∧ m' ((c.tc : Thread Cert.ReferenceIdeal.nD Cert.ReferenceIdeal.τ).loc Cert.ReferenceIdeal.main_arg9) = m ((c.tc : Thread nD τ).loc main_arg9)

/-- The initial states and the three square weights are finite. -/
def FiniteArgs : Prop :=
  Entries (s := Cert.KernelIdeal.S2x1x2048) (arg m c main_arg1) ∧ Entries (s := S2048x2048) (arg m c main_arg3)
    ∧ Entries (s := S2048x2048) (arg m c main_arg6) ∧ Entries (s := S2048x2048) (arg m c main_arg7)

variable {m c m'}

/-- Layer 0's states are the reference's, and they are finite. -/
theorem states_0 (hs : SameArgs m c m') (hf : FiniteArgs m c) (n : ℕ) : (T0 m c n : FVec Ideal S1x2048 .f32) = R0 m' c n ∧ Flat (T0 m c n) := by
  obtain ⟨s0, s1, s2, s3, s4, s5, s6, s7, s8, s9⟩ := hs
  obtain ⟨f1, f3, f6, f7⟩ := hf
  unfold R0 Cert.ReferenceIdeal.Hand.V
  rw [s0, s1, s2, s3, s4, s5]
  have l := layer0 (V m c main_arg0) (V m c main_v21) (V m c main_v22) (V m c main_v23) (V m c main_v24) (V m c main_v1) (V m c main_v6)
    (arg m c main_arg2) (arg m c main_arg4) (arg m c main_arg5) (arg m c main_arg3) (init0 (F := Ideal) (arg m c main_arg1))
    (fun q => (congrFun (val_v22 m c) _).trans (col_apply _ q)) (fun q => (congrFun (val_v23 m c) _).trans (row_apply _ q))
    (fun q => (congrFun (val_v24 m c) _).trans (row_apply _ q)) (fun k q => (congrFun (val_v1 m c) _).trans (hiOf_apply _ k q))
    (fun i => (congrFun (val_v6 m c) _).trans (loOf_apply _ f3 i))
    ((congrArg (fun h => carryRow (F := Ideal) h 0) (val_v21 m c)).trans (carryRow_0 _)) (init0_flat _ f1) n
  refine ⟨l.1.trans ?_, l.2⟩
  rw [Cert.KernelIdeal.Gen.V_main_arg0]

/-- Layer 1's states are the reference's. -/
theorem states_1 (hs : SameArgs m c m') (hf : FiniteArgs m c) (n : ℕ) (hn : n ≤ 8192) : (T1 m c n : FVec Ideal S1x2048 .f32) = R1 m' c n := by
  have z := states_0 hs hf
  obtain ⟨s0, s1, s2, s3, s4, s5, s6, s7, s8, s9⟩ := hs
  obtain ⟨f1, f3, f6, f7⟩ := hf
  unfold R1 Cert.ReferenceIdeal.Hand.V
  rw [s1, s6, s7, s8, s9]
  exact (layer1 (V m c main_v21) (fun k => T0 m c k) (V m c main_v8) (V m c main_v13) (V m c main_v25) (V m c main_v26) (V m c main_v15) (V m c main_v20)
    (arg m c main_arg8) (arg m c main_arg9) (arg m c main_arg6) (arg m c main_arg7) (init1 (F := Ideal) (arg m c main_arg1)) (Q0 m' c)
    (fun q => (congrFun (val_v25 m c) _).trans (row_apply _ q)) (fun q => (congrFun (val_v26 m c) _).trans (row_apply _ q))
    (fun k q => (congrFun (val_v8 m c) _).trans (hiOf_apply _ k q)) (fun i => (congrFun (val_v13 m c) _).trans (loOf_apply _ f6 i))
    (fun k q => (congrFun (val_v15 m c) _).trans (hiOf_apply _ k q)) (fun i => (congrFun (val_v20 m c) _).trans (loOf_apply _ f7 i))
    (fun k => (z k).2) (fun t k => (congrFun (z (t.val + 1)).1 (ix2 (0 : Fin 1) k)).symm)
    ((congrArg (fun h => carryRow (F := Ideal) h 1) (val_v21 m c)).trans (carryRow_1 _)) (init1_flat _ f1) n hn).1

/-- The kernel's result is the reference's. -/
theorem result_eq (hs : SameArgs m c m') (hf : FiniteArgs m c) : (outOf m c : FVec Ideal Cert.KernelIdeal.S2x1x2048 .f32) = refOut m' c := by
  unfold outOf refOut
  rw [(states_0 hs hf 8192).1, states_1 hs hf 8192 le_rfl]
  exact stacked _ _

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_weights_and_state
public import proofs.«01_k».proof.Proof.KTrack
public import proofs.«01_k».proof.Proof.Track
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel at the machine's floats: it runs, leaves its arguments as they were and every semaphore at zero. -/
theorem kernel_frame : quiescent_Kernel (hKernel := Cert.Kernel.Gen.facts) := fun m g _ =>
  (θ_run _ _ _).mono (fun _ h => ⟨fun c => (h.1 c).2, h.2⟩) (Cert.Kernel.Hand.run m g)

/-- The same of the kernel over the extended reals. -/
theorem ideal_frame : quiescent_KernelIdeal (hKernelIdeal := Cert.KernelIdeal.Gen.facts) := fun m g _ =>
  (θ_run _ _ _).mono (fun _ h => ⟨fun c => (h.1 c).2, h.2⟩) (Cert.KernelIdeal.Hand.run m g)

/-- The same of the reference over the extended reals. -/
theorem reference_frame : quiescent_ReferenceIdeal (hReferenceIdeal := Cert.ReferenceIdeal.Gen.facts) := fun m g _ =>
  (θ_run _ _ _).mono (fun _ h => ⟨fun c => (h.1 c).2, h.2⟩) (Cert.ReferenceIdeal.Hand.run m g)

/-- The kernel's frame once more, of the arguments the value claim is about. -/
theorem ideal_frame_pre : quiescent_KernelIdeal_pre_finite_weights_and_state (hKernelIdeal := Cert.KernelIdeal.Gen.facts)
    (hPre_finite_weights_and_state := Cert.Pre_finite_weights_and_state.Gen.facts) := fun m g _ => ideal_frame m g trivial

/-- The reference's frame once more, of the arguments the value claim is about. -/
theorem reference_frame_pre : quiescent_ReferenceIdeal_pre_finite_weights_and_state (hReferenceIdeal := Cert.ReferenceIdeal.Gen.facts)
    (hPre_finite_weights_and_state := Cert.Pre_finite_weights_and_state.Gen.facts) := fun m g _ => reference_frame m g trivial

/-- A comparison that answers one says that the difference is zero. -/
theorem sub_self_of_one {x : EReal} (h : BitVec.ofBool (decide (x - x = 0)) = 1#1) : x - x = 0 := by
  by_contra hx
  rw [decide_eq_false hx] at h
  exact absurd h (by decide)

/-- The precondition says that the initial states and the three square weights are finite. -/
theorem finite_of_pre (m : (ℓ : Loc Cert.KernelIdeal.nD Cert.KernelIdeal.τ Cert.KernelIdeal.sig) → Buf (Elt Ideal) ℓ)
    (h : Pre_KernelIdeal_finite_weights_and_state (hPre_finite_weights_and_state := Cert.Pre_finite_weights_and_state.Gen.facts) m) (c : Dev Cert.KernelIdeal.nD) :
    Cert.Value.FiniteArgs m c := by
  obtain ⟨h1, h3, h6, h7⟩ := h c
  refine ⟨fun i => ?_, fun i => ?_, fun i => ?_, fun i => ?_⟩
  · have e := congrFun h1 i
    unfold Cert.Pre_finite_weights_and_state.fn at e
    simp only [pointwise] at e
    exact sub_self_of_one e
  · have e := congrFun h3 i
    unfold Cert.Pre_finite_weights_and_state.fn at e
    simp only [pointwise] at e
    exact sub_self_of_one e
  · have e := congrFun h6 i
    unfold Cert.Pre_finite_weights_and_state.fn at e
    simp only [pointwise] at e
    exact sub_self_of_one e
  · have e := congrFun h7 i
    unfold Cert.Pre_finite_weights_and_state.fn at e
    simp only [pointwise] at e
    exact sub_self_of_one e

/-- Over the extended reals the kernel and the reference end with one result. -/
theorem same_result : algebraic_KernelIdeal_ReferenceIdeal_pre_finite_weights_and_state (hKernelIdeal := Cert.KernelIdeal.Gen.facts)
    (hReferenceIdeal := Cert.ReferenceIdeal.Gen.facts) (hPre_finite_weights_and_state := Cert.Pre_finite_weights_and_state.Gen.facts) :=
  fun m g m' g' hp hs => ⟨fun c => Cert.KernelIdeal.Hand.outOf m c,
    (θ_run _ _ _).mono (fun _ h => h.1) (Cert.KernelIdeal.Hand.run m g),
    (θ_run _ _ _).mono (fun _ h c => ⟨(h.1 c).1.trans (Cert.Value.result_eq (hs c) (finite_of_pre m hp c)).symm, (h.1 c).2⟩)
      (Cert.ReferenceIdeal.Hand.run m' g')⟩

/-- All five claims, on the stated facts of the programs. -/
theorem claim : Cert.Claim := ⟨Cert.Kernel.Gen.facts, Cert.KernelIdeal.Gen.facts, Cert.ReferenceIdeal.Gen.facts,
  Cert.Pre_finite_weights_and_state.Gen.facts,
  kernel_frame, ideal_frame, ideal_frame_pre, reference_frame, reference_frame_pre, trivial, same_result⟩

end Cert.Proof

end
